-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![2, 2048, 1024]⟩ (Layout.meshBlock [2, 2, 2] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1024, 1024]⟩ ⟨2, ![2048, 1024]⟩ (Layout.meshBlock [2, 2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x1024 : Shape := ⟨3, ![1, 2048, 1024]⟩
abbrev S1024 : Shape := ⟨1, ![1024]⟩
abbrev S1024x1024 : Shape := ⟨2, ![1024, 1024]⟩
abbrev S352x1024 : Shape := ⟨2, ![352, 1024]⟩
abbrev S27 : Shape := ⟨1, ![27]⟩
abbrev S_ : Shape := ⟨0, ![]⟩
abbrev S1x32x1024 : Shape := ⟨3, ![1, 32, 1024]⟩
abbrev S32x1024 : Shape := ⟨2, ![32, 1024]⟩
abbrev S1 : Shape := ⟨1, ![1]⟩
abbrev S1x96x1024 : Shape := ⟨3, ![1, 96, 1024]⟩
abbrev S96x1024 : Shape := ⟨2, ![96, 1024]⟩
abbrev S32 : Shape := ⟨1, ![32]⟩
abbrev S32x1 : Shape := ⟨2, ![32, 1]⟩
abbrev S1x1024 : Shape := ⟨2, ![1, 1024]⟩
abbrev S80x1024 : Shape := ⟨2, ![80, 1024]⟩
abbrev S96 : Shape := ⟨1, ![96]⟩
abbrev S96x1 : Shape := ⟨2, ![96, 1]⟩
abbrev S1x80x1024 : Shape := ⟨3, ![1, 80, 1024]⟩
abbrev S80 : Shape := ⟨1, ![80]⟩
abbrev S80x1 : Shape := ⟨2, ![80, 1]⟩

abbrev nBuf : Space → Nat
  | .hbm => 3
  | .vmem => 5
  | .smem => 0
  | _ => 0

abbrev bufTy : (tb : Table) → Fin (tcTables nBuf tb) → BufTy
  | .hbm, ⟨0, _⟩ => ⟨S1x2048x1024, .f32⟩
  | .hbm, ⟨1, _⟩ => ⟨S1024, .f32⟩
  | .hbm, ⟨2, _⟩ => ⟨S1024x1024, .f32⟩
  | .local _ .vmem, ⟨0, _⟩ => ⟨S1x2048x1024, .f32⟩
  | .local _ .vmem, ⟨1, _⟩ => ⟨S1024, .f32⟩
  | .local _ .vmem, ⟨2, _⟩ => ⟨S1024x1024, .bf16⟩
  | .local _ .vmem, ⟨3, _⟩ => ⟨S352x1024, .bf16⟩
  | .local _ .vmem, ⟨4, _⟩ => ⟨S1024x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 83 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | _ => false

abbrev sig : RefSig :=
  (ofTc nBuf bufTy 1 83 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_17 : BitVec 32 := 4#32
  let v29 : BitVec 32 := Scalar.muli v9 c4_i32_17
  let v30 : BitVec 32 := Scalar.addi c0_i32 v29
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v31 : BitVec 32 := Scalar.muli v5 c2_i32_18
  let v32 : BitVec 32 := Scalar.addi v30 v31
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_19 : BitVec 32 := 1#32
  let v33 : BitVec 32 := Scalar.muli v8 c1_i32_19
  let v34 : BitVec 32 := Scalar.addi v32 v33
  v34.toNat
def k0_dev2 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v35 : BitVec 32 := Scalar.muli v2 c4_i32_21
  let v36 : BitVec 32 := Scalar.addi c0_i32_22 v35
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_23 : BitVec 32 := 2#32
  let v37 : BitVec 32 := Scalar.muli v10 c2_i32_23
  let v38 : BitVec 32 := Scalar.addi v36 v37
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_24 : BitVec 32 := 1#32
  let v39 : BitVec 32 := Scalar.muli v8 c1_i32_24
  let v40 : BitVec 32 := Scalar.addi v38 v39
  v40.toNat
def k0_dev3 (d0 : Dev nD) : Nat :=
  let c0_i32_27 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_26 : BitVec 32 := 4#32
  let v41 : BitVec 32 := Scalar.muli v2 c4_i32_26
  let v42 : BitVec 32 := Scalar.addi c0_i32_27 v41
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_28 : BitVec 32 := 2#32
  let v43 : BitVec 32 := Scalar.muli v5 c2_i32_28
  let v44 : BitVec 32 := Scalar.addi v42 v43
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_29 : BitVec 32 := 1#32
  let v45 : BitVec 32 := Scalar.muli v11 c1_i32_29
  let v46 : BitVec 32 := Scalar.addi v44 v45
  v46.toNat
def k0_off1 (d0 : Dev nD) (c0_i32_31 : BitVec 32) : Fin 3 → Nat :=
  let c0 : Index := 0#32
  let c1_i32_30 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v47 : BitVec 32 := Scalar.subi c1_i32_30 v2
  let c1024_i32 : BitVec 32 := 1024#32
  let v48 : BitVec 32 := Scalar.muli v47 c1024_i32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32 : BitVec 32 := 512#32
  let v12 : BitVec 32 := Scalar.muli v8 c512_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c256_i32 : BitVec 32 := 256#32
  let v13 : BitVec 32 := Scalar.muli v5 c256_i32
  let v14 : BitVec 32 := Scalar.addi v12 v13
  let v49 : BitVec 32 := Scalar.addi v48 v14
  let v50 : BitVec 32 := Scalar.addi v49 c0_i32_31
  let v51 : Index := Scalar.indexCast v50
  let c0_32 : Index := 0#32
  ![0, v51.toNat, 0]
def k0_off2 (d0 : Dev nD) (c0_i32_35 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32 : BitVec 32 := 512#32
  let v12 : BitVec 32 := Scalar.muli v8 c512_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c256_i32 : BitVec 32 := 256#32
  let v13 : BitVec 32 := Scalar.muli v5 c256_i32
  let v14 : BitVec 32 := Scalar.addi v12 v13
  let v58 : BitVec 32 := Scalar.addi v14 c0_i32_35
  let c0_i32_42 : BitVec 32 := 0#32
  ![v58.toNat, 0]
def k0_dev4 (d0 : Dev nD) : Nat :=
  let c0_i32_39 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_38 : BitVec 32 := 4#32
  let v59 : BitVec 32 := Scalar.muli v9 c4_i32_38
  let v60 : BitVec 32 := Scalar.addi c0_i32_39 v59
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_40 : BitVec 32 := 2#32
  let v61 : BitVec 32 := Scalar.muli v5 c2_i32_40
  let v62 : BitVec 32 := Scalar.addi v60 v61
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_41 : BitVec 32 := 1#32
  let v63 : BitVec 32 := Scalar.muli v8 c1_i32_41
  let v64 : BitVec 32 := Scalar.addi v62 v63
  v64.toNat
def k0_dev5 (d0 : Dev nD) : Nat :=
  let c0_i32_52 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_51 : BitVec 32 := 4#32
  let v81 : BitVec 32 := Scalar.muli v9 c4_i32_51
  let v82 : BitVec 32 := Scalar.addi c0_i32_52 v81
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_53 : BitVec 32 := 2#32
  let v83 : BitVec 32 := Scalar.muli v5 c2_i32_53
  let v84 : BitVec 32 := Scalar.addi v82 v83
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_54 : BitVec 32 := 1#32
  let v85 : BitVec 32 := Scalar.muli v8 c1_i32_54
  let v86 : BitVec 32 := Scalar.addi v84 v85
  v86.toNat
def k0_dev6 (d0 : Dev nD) : Nat :=
  let c0_i32_65 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_64 : BitVec 32 := 4#32
  let v103 : BitVec 32 := Scalar.muli v9 c4_i32_64
  let v104 : BitVec 32 := Scalar.addi c0_i32_65 v103
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_66 : BitVec 32 := 2#32
  let v105 : BitVec 32 := Scalar.muli v5 c2_i32_66
  let v106 : BitVec 32 := Scalar.addi v104 v105
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_67 : BitVec 32 := 1#32
  let v107 : BitVec 32 := Scalar.muli v8 c1_i32_67
  let v108 : BitVec 32 := Scalar.addi v106 v107
  v108.toNat
def k0_dev7 (d0 : Dev nD) : Nat :=
  let c0_i32_78 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_77 : BitVec 32 := 4#32
  let v125 : BitVec 32 := Scalar.muli v9 c4_i32_77
  let v126 : BitVec 32 := Scalar.addi c0_i32_78 v125
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_79 : BitVec 32 := 2#32
  let v127 : BitVec 32 := Scalar.muli v5 c2_i32_79
  let v128 : BitVec 32 := Scalar.addi v126 v127
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_80 : BitVec 32 := 1#32
  let v129 : BitVec 32 := Scalar.muli v8 c1_i32_80
  let v130 : BitVec 32 := Scalar.addi v128 v129
  v130.toNat
def k0_dev8 (d0 : Dev nD) : Nat :=
  let c0_i32_91 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_90 : BitVec 32 := 4#32
  let v147 : BitVec 32 := Scalar.muli v9 c4_i32_90
  let v148 : BitVec 32 := Scalar.addi c0_i32_91 v147
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_92 : BitVec 32 := 2#32
  let v149 : BitVec 32 := Scalar.muli v5 c2_i32_92
  let v150 : BitVec 32 := Scalar.addi v148 v149
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_93 : BitVec 32 := 1#32
  let v151 : BitVec 32 := Scalar.muli v8 c1_i32_93
  let v152 : BitVec 32 := Scalar.addi v150 v151
  v152.toNat
def k0_dev9 (d0 : Dev nD) : Nat :=
  let c0_i32_103 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_102 : BitVec 32 := 4#32
  let v169 : BitVec 32 := Scalar.muli v9 c4_i32_102
  let v170 : BitVec 32 := Scalar.addi c0_i32_103 v169
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_104 : BitVec 32 := 2#32
  let v171 : BitVec 32 := Scalar.muli v5 c2_i32_104
  let v172 : BitVec 32 := Scalar.addi v170 v171
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_105 : BitVec 32 := 1#32
  let v173 : BitVec 32 := Scalar.muli v8 c1_i32_105
  let v174 : BitVec 32 := Scalar.addi v172 v173
  v174.toNat
def k0_dev10 (d0 : Dev nD) : Nat :=
  let c0_i32_115 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_114 : BitVec 32 := 4#32
  let v191 : BitVec 32 := Scalar.muli v9 c4_i32_114
  let v192 : BitVec 32 := Scalar.addi c0_i32_115 v191
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_116 : BitVec 32 := 2#32
  let v193 : BitVec 32 := Scalar.muli v5 c2_i32_116
  let v194 : BitVec 32 := Scalar.addi v192 v193
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_117 : BitVec 32 := 1#32
  let v195 : BitVec 32 := Scalar.muli v8 c1_i32_117
  let v196 : BitVec 32 := Scalar.addi v194 v195
  v196.toNat
def k0_dev11 (d0 : Dev nD) : Nat :=
  let c0_i32_127 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_126 : BitVec 32 := 4#32
  let v213 : BitVec 32 := Scalar.muli v9 c4_i32_126
  let v214 : BitVec 32 := Scalar.addi c0_i32_127 v213
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_128 : BitVec 32 := 2#32
  let v215 : BitVec 32 := Scalar.muli v5 c2_i32_128
  let v216 : BitVec 32 := Scalar.addi v214 v215
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_129 : BitVec 32 := 1#32
  let v217 : BitVec 32 := Scalar.muli v8 c1_i32_129
  let v218 : BitVec 32 := Scalar.addi v216 v217
  v218.toNat
def k0_off3 (d0 : Dev nD) : Fin 3 → Nat :=
  let c0_133 : Index := 0#32
  let c1_i32_30 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v47 : BitVec 32 := Scalar.subi c1_i32_30 v2
  let c1024_i32 : BitVec 32 := 1024#32
  let v48 : BitVec 32 := Scalar.muli v47 c1024_i32
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_12 v8
  let c512_i32_13 : BitVec 32 := 512#32
  let v24 : BitVec 32 := Scalar.muli v23 c512_i32_13
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v25 : BitVec 32 := Scalar.subi c1_i32_14 v5
  let c256_i32_15 : BitVec 32 := 256#32
  let v26 : BitVec 32 := Scalar.muli v25 c256_i32_15
  let v27 : BitVec 32 := Scalar.addi v24 v26
  let v225 : BitVec 32 := Scalar.addi v48 v27
  let v226 : Index := Scalar.indexCast v225
  let c0_134 : Index := 0#32
  ![0, v226.toNat, 0]
def k0_off4 (d0 : Dev nD) : Fin 2 → Nat :=
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_12 v8
  let c512_i32_13 : BitVec 32 := 512#32
  let v24 : BitVec 32 := Scalar.muli v23 c512_i32_13
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v25 : BitVec 32 := Scalar.subi c1_i32_14 v5
  let c256_i32_15 : BitVec 32 := 256#32
  let v26 : BitVec 32 := Scalar.muli v25 c256_i32_15
  let v27 : BitVec 32 := Scalar.addi v24 v26
  let c0_i32_141 : BitVec 32 := 0#32
  ![v27.toNat, 0]
def k0_dev12 (d0 : Dev nD) : Nat :=
  let c0_i32_138 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_137 : BitVec 32 := 4#32
  let v233 : BitVec 32 := Scalar.muli v9 c4_i32_137
  let v234 : BitVec 32 := Scalar.addi c0_i32_138 v233
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_139 : BitVec 32 := 2#32
  let v235 : BitVec 32 := Scalar.muli v5 c2_i32_139
  let v236 : BitVec 32 := Scalar.addi v234 v235
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_140 : BitVec 32 := 1#32
  let v237 : BitVec 32 := Scalar.muli v8 c1_i32_140
  let v238 : BitVec 32 := Scalar.addi v236 v237
  v238.toNat
def k0_dev13 (d0 : Dev nD) : Nat :=
  let c0_i32_157 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_156 : BitVec 32 := 4#32
  let v258 : BitVec 32 := Scalar.muli v2 c4_i32_156
  let v259 : BitVec 32 := Scalar.addi c0_i32_157 v258
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_158 : BitVec 32 := 2#32
  let v260 : BitVec 32 := Scalar.muli v10 c2_i32_158
  let v261 : BitVec 32 := Scalar.addi v259 v260
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_159 : BitVec 32 := 1#32
  let v262 : BitVec 32 := Scalar.muli v8 c1_i32_159
  let v263 : BitVec 32 := Scalar.addi v261 v262
  v263.toNat
def k0_dev14 (d0 : Dev nD) : Nat :=
  let c0_i32_166 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_165 : BitVec 32 := 4#32
  let v272 : BitVec 32 := Scalar.muli v2 c4_i32_165
  let v273 : BitVec 32 := Scalar.addi c0_i32_166 v272
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_167 : BitVec 32 := 2#32
  let v274 : BitVec 32 := Scalar.muli v5 c2_i32_167
  let v275 : BitVec 32 := Scalar.addi v273 v274
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_168 : BitVec 32 := 1#32
  let v276 : BitVec 32 := Scalar.muli v11 c1_i32_168
  let v277 : BitVec 32 := Scalar.addi v275 v276
  v277.toNat
def k0_off5 (d0 : Dev nD) (c0_i32_171 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32 : BitVec 32 := 512#32
  let v12 : BitVec 32 := Scalar.muli v8 c512_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c256_i32 : BitVec 32 := 256#32
  let v13 : BitVec 32 := Scalar.muli v5 c256_i32
  let v14 : BitVec 32 := Scalar.addi v12 v13
  let v284 : BitVec 32 := Scalar.addi v14 c0_i32_171
  let v285 : Index := Scalar.indexCast v284
  let c0_172 : Index := 0#32
  ![v285.toNat, 0]
def k0_off6 (d0 : Dev nD) (c0_i32_171 : BitVec 32) : Fin 3 → Nat :=
  let c0_174 : Index := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32_173 : BitVec 32 := 1024#32
  let v288 : BitVec 32 := Scalar.muli v2 c1024_i32_173
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32 : BitVec 32 := 512#32
  let v12 : BitVec 32 := Scalar.muli v8 c512_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c256_i32 : BitVec 32 := 256#32
  let v13 : BitVec 32 := Scalar.muli v5 c256_i32
  let v14 : BitVec 32 := Scalar.addi v12 v13
  let v284 : BitVec 32 := Scalar.addi v14 c0_i32_171
  let v289 : BitVec 32 := Scalar.addi v288 v284
  let v290 : Index := Scalar.indexCast v289
  let c0_175 : Index := 0#32
  ![0, v290.toNat, 0]
def k0_dev15 (d0 : Dev nD) : Nat :=
  let c0_i32_196 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_195 : BitVec 32 := 4#32
  let v330 : BitVec 32 := Scalar.muli v2 c4_i32_195
  let v331 : BitVec 32 := Scalar.addi c0_i32_196 v330
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_197 : BitVec 32 := 2#32
  let v332 : BitVec 32 := Scalar.muli v10 c2_i32_197
  let v333 : BitVec 32 := Scalar.addi v331 v332
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_198 : BitVec 32 := 1#32
  let v334 : BitVec 32 := Scalar.muli v8 c1_i32_198
  let v335 : BitVec 32 := Scalar.addi v333 v334
  v335.toNat
def k0_dev16 (d0 : Dev nD) : Nat :=
  let c0_i32_205 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_204 : BitVec 32 := 4#32
  let v344 : BitVec 32 := Scalar.muli v2 c4_i32_204
  let v345 : BitVec 32 := Scalar.addi c0_i32_205 v344
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_206 : BitVec 32 := 2#32
  let v346 : BitVec 32 := Scalar.muli v5 c2_i32_206
  let v347 : BitVec 32 := Scalar.addi v345 v346
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_207 : BitVec 32 := 1#32
  let v348 : BitVec 32 := Scalar.muli v11 c1_i32_207
  let v349 : BitVec 32 := Scalar.addi v347 v348
  v349.toNat
def k0_dev17 (d0 : Dev nD) : Nat :=
  let c0_i32_236 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_235 : BitVec 32 := 4#32
  let v402 : BitVec 32 := Scalar.muli v2 c4_i32_235
  let v403 : BitVec 32 := Scalar.addi c0_i32_236 v402
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_237 : BitVec 32 := 2#32
  let v404 : BitVec 32 := Scalar.muli v10 c2_i32_237
  let v405 : BitVec 32 := Scalar.addi v403 v404
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_238 : BitVec 32 := 1#32
  let v406 : BitVec 32 := Scalar.muli v8 c1_i32_238
  let v407 : BitVec 32 := Scalar.addi v405 v406
  v407.toNat
def k0_dev18 (d0 : Dev nD) : Nat :=
  let c0_i32_245 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_244 : BitVec 32 := 4#32
  let v416 : BitVec 32 := Scalar.muli v2 c4_i32_244
  let v417 : BitVec 32 := Scalar.addi c0_i32_245 v416
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_246 : BitVec 32 := 2#32
  let v418 : BitVec 32 := Scalar.muli v5 c2_i32_246
  let v419 : BitVec 32 := Scalar.addi v417 v418
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_247 : BitVec 32 := 1#32
  let v420 : BitVec 32 := Scalar.muli v11 c1_i32_247
  let v421 : BitVec 32 := Scalar.addi v419 v420
  v421.toNat
def k0_dev19 (d0 : Dev nD) : Nat :=
  let c0_i32_276 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_275 : BitVec 32 := 4#32
  let v474 : BitVec 32 := Scalar.muli v2 c4_i32_275
  let v475 : BitVec 32 := Scalar.addi c0_i32_276 v474
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_277 : BitVec 32 := 2#32
  let v476 : BitVec 32 := Scalar.muli v10 c2_i32_277
  let v477 : BitVec 32 := Scalar.addi v475 v476
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_278 : BitVec 32 := 1#32
  let v478 : BitVec 32 := Scalar.muli v8 c1_i32_278
  let v479 : BitVec 32 := Scalar.addi v477 v478
  v479.toNat
def k0_dev20 (d0 : Dev nD) : Nat :=
  let c0_i32_285 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_284 : BitVec 32 := 4#32
  let v488 : BitVec 32 := Scalar.muli v2 c4_i32_284
  let v489 : BitVec 32 := Scalar.addi c0_i32_285 v488
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_286 : BitVec 32 := 2#32
  let v490 : BitVec 32 := Scalar.muli v5 c2_i32_286
  let v491 : BitVec 32 := Scalar.addi v489 v490
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_287 : BitVec 32 := 1#32
  let v492 : BitVec 32 := Scalar.muli v11 c1_i32_287
  let v493 : BitVec 32 := Scalar.addi v491 v492
  v493.toNat
def k0_dev21 (d0 : Dev nD) : Nat :=
  let c0_i32_316 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_315 : BitVec 32 := 4#32
  let v546 : BitVec 32 := Scalar.muli v2 c4_i32_315
  let v547 : BitVec 32 := Scalar.addi c0_i32_316 v546
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_317 : BitVec 32 := 2#32
  let v548 : BitVec 32 := Scalar.muli v10 c2_i32_317
  let v549 : BitVec 32 := Scalar.addi v547 v548
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_318 : BitVec 32 := 1#32
  let v550 : BitVec 32 := Scalar.muli v8 c1_i32_318
  let v551 : BitVec 32 := Scalar.addi v549 v550
  v551.toNat
def k0_dev22 (d0 : Dev nD) : Nat :=
  let c0_i32_325 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_324 : BitVec 32 := 4#32
  let v560 : BitVec 32 := Scalar.muli v2 c4_i32_324
  let v561 : BitVec 32 := Scalar.addi c0_i32_325 v560
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_326 : BitVec 32 := 2#32
  let v562 : BitVec 32 := Scalar.muli v5 c2_i32_326
  let v563 : BitVec 32 := Scalar.addi v561 v562
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_327 : BitVec 32 := 1#32
  let v564 : BitVec 32 := Scalar.muli v11 c1_i32_327
  let v565 : BitVec 32 := Scalar.addi v563 v564
  v565.toNat
def k0_dev23 (d0 : Dev nD) : Nat :=
  let c0_i32_356 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_355 : BitVec 32 := 4#32
  let v618 : BitVec 32 := Scalar.muli v2 c4_i32_355
  let v619 : BitVec 32 := Scalar.addi c0_i32_356 v618
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_357 : BitVec 32 := 2#32
  let v620 : BitVec 32 := Scalar.muli v10 c2_i32_357
  let v621 : BitVec 32 := Scalar.addi v619 v620
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_358 : BitVec 32 := 1#32
  let v622 : BitVec 32 := Scalar.muli v8 c1_i32_358
  let v623 : BitVec 32 := Scalar.addi v621 v622
  v623.toNat
def k0_dev24 (d0 : Dev nD) : Nat :=
  let c0_i32_365 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_364 : BitVec 32 := 4#32
  let v632 : BitVec 32 := Scalar.muli v2 c4_i32_364
  let v633 : BitVec 32 := Scalar.addi c0_i32_365 v632
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_366 : BitVec 32 := 2#32
  let v634 : BitVec 32 := Scalar.muli v5 c2_i32_366
  let v635 : BitVec 32 := Scalar.addi v633 v634
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_367 : BitVec 32 := 1#32
  let v636 : BitVec 32 := Scalar.muli v11 c1_i32_367
  let v637 : BitVec 32 := Scalar.addi v635 v636
  v637.toNat
def k0_dev25 (d0 : Dev nD) : Nat :=
  let c0_i32_396 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_395 : BitVec 32 := 4#32
  let v690 : BitVec 32 := Scalar.muli v2 c4_i32_395
  let v691 : BitVec 32 := Scalar.addi c0_i32_396 v690
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_397 : BitVec 32 := 2#32
  let v692 : BitVec 32 := Scalar.muli v10 c2_i32_397
  let v693 : BitVec 32 := Scalar.addi v691 v692
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_398 : BitVec 32 := 1#32
  let v694 : BitVec 32 := Scalar.muli v8 c1_i32_398
  let v695 : BitVec 32 := Scalar.addi v693 v694
  v695.toNat
def k0_dev26 (d0 : Dev nD) : Nat :=
  let c0_i32_405 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_404 : BitVec 32 := 4#32
  let v704 : BitVec 32 := Scalar.muli v2 c4_i32_404
  let v705 : BitVec 32 := Scalar.addi c0_i32_405 v704
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_406 : BitVec 32 := 2#32
  let v706 : BitVec 32 := Scalar.muli v5 c2_i32_406
  let v707 : BitVec 32 := Scalar.addi v705 v706
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_407 : BitVec 32 := 1#32
  let v708 : BitVec 32 := Scalar.muli v11 c1_i32_407
  let v709 : BitVec 32 := Scalar.addi v707 v708
  v709.toNat
def k0_dev27 (d0 : Dev nD) : Nat :=
  let c0_i32_436 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_435 : BitVec 32 := 4#32
  let v762 : BitVec 32 := Scalar.muli v2 c4_i32_435
  let v763 : BitVec 32 := Scalar.addi c0_i32_436 v762
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_437 : BitVec 32 := 2#32
  let v764 : BitVec 32 := Scalar.muli v10 c2_i32_437
  let v765 : BitVec 32 := Scalar.addi v763 v764
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_438 : BitVec 32 := 1#32
  let v766 : BitVec 32 := Scalar.muli v8 c1_i32_438
  let v767 : BitVec 32 := Scalar.addi v765 v766
  v767.toNat
def k0_dev28 (d0 : Dev nD) : Nat :=
  let c0_i32_445 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_444 : BitVec 32 := 4#32
  let v776 : BitVec 32 := Scalar.muli v2 c4_i32_444
  let v777 : BitVec 32 := Scalar.addi c0_i32_445 v776
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_446 : BitVec 32 := 2#32
  let v778 : BitVec 32 := Scalar.muli v5 c2_i32_446
  let v779 : BitVec 32 := Scalar.addi v777 v778
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_447 : BitVec 32 := 1#32
  let v780 : BitVec 32 := Scalar.muli v11 c1_i32_447
  let v781 : BitVec 32 := Scalar.addi v779 v780
  v781.toNat
def k0_off7 (d0 : Dev nD) (c0_i32_463 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_6 : BitVec 32 := 512#32
  let v15 : BitVec 32 := Scalar.muli v8 c512_i32_6
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_7 v5
  let c256_i32_8 : BitVec 32 := 256#32
  let v17 : BitVec 32 := Scalar.muli v16 c256_i32_8
  let v18 : BitVec 32 := Scalar.addi v15 v17
  let v821 : BitVec 32 := Scalar.addi v18 c0_i32_463
  let c0_i32_470 : BitVec 32 := 0#32
  ![v821.toNat, 0]
def k0_off8 (d0 : Dev nD) (c0_i32_472 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_6 : BitVec 32 := 512#32
  let v15 : BitVec 32 := Scalar.muli v8 c512_i32_6
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_7 v5
  let c256_i32_8 : BitVec 32 := 256#32
  let v17 : BitVec 32 := Scalar.muli v16 c256_i32_8
  let v18 : BitVec 32 := Scalar.addi v15 v17
  let v832 : BitVec 32 := Scalar.addi v18 c0_i32_472
  let v833 : Index := Scalar.indexCast v832
  let c0_473 : Index := 0#32
  ![v833.toNat, 0]
def k0_off9 (d0 : Dev nD) (c0_i32_472 : BitVec 32) : Fin 3 → Nat :=
  let c0_475 : Index := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32_474 : BitVec 32 := 1024#32
  let v836 : BitVec 32 := Scalar.muli v2 c1024_i32_474
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_6 : BitVec 32 := 512#32
  let v15 : BitVec 32 := Scalar.muli v8 c512_i32_6
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_7 v5
  let c256_i32_8 : BitVec 32 := 256#32
  let v17 : BitVec 32 := Scalar.muli v16 c256_i32_8
  let v18 : BitVec 32 := Scalar.addi v15 v17
  let v832 : BitVec 32 := Scalar.addi v18 c0_i32_472
  let v837 : BitVec 32 := Scalar.addi v836 v832
  let v838 : Index := Scalar.indexCast v837
  let c0_476 : Index := 0#32
  ![0, v838.toNat, 0]
def k0_off10 (d0 : Dev nD) (c0_i32_485 : BitVec 32) : Fin 2 → Nat :=
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_9 v8
  let c512_i32_10 : BitVec 32 := 512#32
  let v20 : BitVec 32 := Scalar.muli v19 c512_i32_10
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c256_i32_11 : BitVec 32 := 256#32
  let v21 : BitVec 32 := Scalar.muli v5 c256_i32_11
  let v22 : BitVec 32 := Scalar.addi v20 v21
  let v865 : BitVec 32 := Scalar.addi v22 c0_i32_485
  let c0_i32_492 : BitVec 32 := 0#32
  ![v865.toNat, 0]
def k0_off11 (d0 : Dev nD) (c0_i32_494 : BitVec 32) : Fin 2 → Nat :=
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_9 v8
  let c512_i32_10 : BitVec 32 := 512#32
  let v20 : BitVec 32 := Scalar.muli v19 c512_i32_10
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c256_i32_11 : BitVec 32 := 256#32
  let v21 : BitVec 32 := Scalar.muli v5 c256_i32_11
  let v22 : BitVec 32 := Scalar.addi v20 v21
  let v876 : BitVec 32 := Scalar.addi v22 c0_i32_494
  let v877 : Index := Scalar.indexCast v876
  let c0_495 : Index := 0#32
  ![v877.toNat, 0]
def k0_off12 (d0 : Dev nD) (c0_i32_494 : BitVec 32) : Fin 3 → Nat :=
  let c0_497 : Index := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32_496 : BitVec 32 := 1024#32
  let v880 : BitVec 32 := Scalar.muli v2 c1024_i32_496
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_9 v8
  let c512_i32_10 : BitVec 32 := 512#32
  let v20 : BitVec 32 := Scalar.muli v19 c512_i32_10
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c256_i32_11 : BitVec 32 := 256#32
  let v21 : BitVec 32 := Scalar.muli v5 c256_i32_11
  let v22 : BitVec 32 := Scalar.addi v20 v21
  let v876 : BitVec 32 := Scalar.addi v22 c0_i32_494
  let v881 : BitVec 32 := Scalar.addi v880 v876
  let v882 : Index := Scalar.indexCast v881
  let c0_498 : Index := 0#32
  ![0, v882.toNat, 0]
def k0_off13 (d0 : Dev nD) : Fin 2 → Nat :=
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_9 v8
  let c512_i32_10 : BitVec 32 := 512#32
  let v20 : BitVec 32 := Scalar.muli v19 c512_i32_10
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c256_i32_11 : BitVec 32 := 256#32
  let v21 : BitVec 32 := Scalar.muli v5 c256_i32_11
  let v22 : BitVec 32 := Scalar.addi v20 v21
  let c96_i32_714 : BitVec 32 := 96#32
  let v1317 : BitVec 32 := Scalar.addi v22 c96_i32_714
  let c0_i32_721 : BitVec 32 := 0#32
  ![v1317.toNat, 0]
def k0_dev29 (d0 : Dev nD) : Nat :=
  let c0_i32_718 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_717 : BitVec 32 := 4#32
  let v1318 : BitVec 32 := Scalar.muli v2 c4_i32_717
  let v1319 : BitVec 32 := Scalar.addi c0_i32_718 v1318
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_719 : BitVec 32 := 2#32
  let v1320 : BitVec 32 := Scalar.muli v10 c2_i32_719
  let v1321 : BitVec 32 := Scalar.addi v1319 v1320
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_720 : BitVec 32 := 1#32
  let v1322 : BitVec 32 := Scalar.muli v8 c1_i32_720
  let v1323 : BitVec 32 := Scalar.addi v1321 v1322
  v1323.toNat
def k0_off14 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_6 : BitVec 32 := 512#32
  let v15 : BitVec 32 := Scalar.muli v8 c512_i32_6
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_7 v5
  let c256_i32_8 : BitVec 32 := 256#32
  let v17 : BitVec 32 := Scalar.muli v16 c256_i32_8
  let v18 : BitVec 32 := Scalar.addi v15 v17
  let c176_i32_789 : BitVec 32 := 176#32
  let v1463 : BitVec 32 := Scalar.addi v18 c176_i32_789
  let c0_i32_795 : BitVec 32 := 0#32
  ![v1463.toNat, 0]
def k0_dev30 (d0 : Dev nD) : Nat :=
  let c0_i32_792 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_791 : BitVec 32 := 4#32
  let v1464 : BitVec 32 := Scalar.muli v2 c4_i32_791
  let v1465 : BitVec 32 := Scalar.addi c0_i32_792 v1464
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_793 : BitVec 32 := 2#32
  let v1466 : BitVec 32 := Scalar.muli v5 c2_i32_793
  let v1467 : BitVec 32 := Scalar.addi v1465 v1466
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_794 : BitVec 32 := 1#32
  let v1468 : BitVec 32 := Scalar.muli v11 c1_i32_794
  let v1469 : BitVec 32 := Scalar.addi v1467 v1468
  v1469.toNat
def k0_off15 (d0 : Dev nD) : Fin 2 → Nat :=
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_12 v8
  let c512_i32_13 : BitVec 32 := 512#32
  let v24 : BitVec 32 := Scalar.muli v23 c512_i32_13
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v25 : BitVec 32 := Scalar.subi c1_i32_14 v5
  let c256_i32_15 : BitVec 32 := 256#32
  let v26 : BitVec 32 := Scalar.muli v25 c256_i32_15
  let v27 : BitVec 32 := Scalar.addi v24 v26
  let v1563 : Index := Scalar.indexCast v27
  let c0_840 : Index := 0#32
  ![v1563.toNat, 0]
def k0_off16 (d0 : Dev nD) : Fin 3 → Nat :=
  let c0_842 : Index := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32_841 : BitVec 32 := 1024#32
  let v1566 : BitVec 32 := Scalar.muli v2 c1024_i32_841
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_12 v8
  let c512_i32_13 : BitVec 32 := 512#32
  let v24 : BitVec 32 := Scalar.muli v23 c512_i32_13
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v25 : BitVec 32 := Scalar.subi c1_i32_14 v5
  let c256_i32_15 : BitVec 32 := 256#32
  let v26 : BitVec 32 := Scalar.muli v25 c256_i32_15
  let v27 : BitVec 32 := Scalar.addi v24 v26
  let v1567 : BitVec 32 := Scalar.addi v1566 v27
  let v1568 : Index := Scalar.indexCast v1567
  let c0_843 : Index := 0#32
  ![0, v1568.toNat, 0]
def k0_off17 (d0 : Dev nD) (c96_i32_852 : BitVec 32) : Fin 2 → Nat :=
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_12 v8
  let c512_i32_13 : BitVec 32 := 512#32
  let v24 : BitVec 32 := Scalar.muli v23 c512_i32_13
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v25 : BitVec 32 := Scalar.subi c1_i32_14 v5
  let c256_i32_15 : BitVec 32 := 256#32
  let v26 : BitVec 32 := Scalar.muli v25 c256_i32_15
  let v27 : BitVec 32 := Scalar.addi v24 v26
  let v1595 : BitVec 32 := Scalar.addi v27 c96_i32_852
  let c0_i32_859 : BitVec 32 := 0#32
  ![v1595.toNat, 0]
def k0_off18 (d0 : Dev nD) (c96_i32_861 : BitVec 32) : Fin 2 → Nat :=
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_12 v8
  let c512_i32_13 : BitVec 32 := 512#32
  let v24 : BitVec 32 := Scalar.muli v23 c512_i32_13
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v25 : BitVec 32 := Scalar.subi c1_i32_14 v5
  let c256_i32_15 : BitVec 32 := 256#32
  let v26 : BitVec 32 := Scalar.muli v25 c256_i32_15
  let v27 : BitVec 32 := Scalar.addi v24 v26
  let v1606 : BitVec 32 := Scalar.addi v27 c96_i32_861
  let v1607 : Index := Scalar.indexCast v1606
  let c0_862 : Index := 0#32
  ![v1607.toNat, 0]
def k0_off19 (d0 : Dev nD) (c96_i32_861 : BitVec 32) : Fin 3 → Nat :=
  let c0_864 : Index := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32_863 : BitVec 32 := 1024#32
  let v1610 : BitVec 32 := Scalar.muli v2 c1024_i32_863
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_12 v8
  let c512_i32_13 : BitVec 32 := 512#32
  let v24 : BitVec 32 := Scalar.muli v23 c512_i32_13
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v25 : BitVec 32 := Scalar.subi c1_i32_14 v5
  let c256_i32_15 : BitVec 32 := 256#32
  let v26 : BitVec 32 := Scalar.muli v25 c256_i32_15
  let v27 : BitVec 32 := Scalar.addi v24 v26
  let v1606 : BitVec 32 := Scalar.addi v27 c96_i32_861
  let v1611 : BitVec 32 := Scalar.addi v1610 v1606
  let v1612 : Index := Scalar.indexCast v1611
  let c0_865 : Index := 0#32
  ![0, v1612.toNat, 0]
abbrev stage0_0 : Fin 1 → Memref sig .tc .vmem S1x2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x2048x1024 : Shape := ⟨3, ![2, 2048, 1024]⟩
abbrev S1024 : Shape := ⟨1, ![1024]⟩
abbrev S_ : Shape := ⟨0, ![]⟩
abbrev S2048x1024 : Shape := ⟨2, ![2048, 1024]⟩
abbrev S2048 : Shape := ⟨1, ![2048]⟩
abbrev S2048x1 : Shape := ⟨2, ![2048, 1]⟩
abbrev S1x1024 : Shape := ⟨2, ![1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S_, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S1x1024, .f32⟩
  | .hbm, ⟨18, _⟩ => ⟨S2048x1024, .f32⟩
  | .hbm, ⟨19, _⟩ => ⟨S2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Geo.lean ====
/-
# Where everything lies: the eight devices, the 27 transfers and the rows each of them moves

Device `c` of the 2×2×2 mesh stands at `x = c / 4`, `y = c / 2 % 2`, `z = c % 2`. Its 27 receive slots cut the 1024
rows of its receive buffer: slots 0…8 come from the neighbour along `x`, slots 9…17 from the one along `y`, slots
18…26 from the one along `z`. This file names the rows of each slot and reads the program's index chains as them.
-/
module

public import proofs.«01_k».proof.Proof.Gen.KernelIdeal

@[expose] public section

noncomputable section

namespace Cert.KP

open Cert.KernelIdeal Cert.KernelIdeal.Gen
open Idealize.ShloMosaic

/-- `n` rows of 1024 elements. -/
abbrev Sn (n : ℕ) : Shape := ⟨2, ![n, 1024]⟩
/-- The same rows under a leading axis of size one. -/
abbrev S1n (n : ℕ) : Shape := ⟨3, ![1, n, 1024]⟩

/-- How many rows slot `s` carries. -/
def dLen (s : Fin 27) : ℕ := if s.val = 8 then 96 else if s.val = 17 then 80 else if s.val = 26 then 80 else 32

/-- The neighbour of `c` along `x`, along `y`, along `z`: as the program computes it. -/
def px (c : Dev nD) : Dev nD := ⟨k0_dev1 c, k0_dev1_lt c⟩
def py (c : Dev nD) : Dev nD := ⟨k0_dev2 c, k0_dev2_lt c⟩
def pz (c : Dev nD) : Dev nD := ⟨k0_dev3 c, k0_dev3_lt c⟩

/-- The device slot `s` of `c` is sent to, which is also the one that `c`'s slot `s` comes from. -/
def peer (c : Dev nD) (s : Fin 27) : Dev nD := if s.val < 9 then px c else if s.val < 18 then py c else pz c

/-- A device's `x` coordinate. -/
def cx (c : Dev nD) : ℕ := c.val / 4

/-- The first row of the four quarters of a device's rows: its own, its `y` neighbour's, its `z` neighbour's, and
    the one of the device diagonally opposite. -/
def offMy (c : Dev nD) : ℕ := 512 * (c.val % 2) + 256 * (c.val / 2 % 2)
def offY (c : Dev nD) : ℕ := 512 * (c.val % 2) + 256 * (1 - c.val / 2 % 2)
def offZ (c : Dev nD) : ℕ := 512 * (1 - c.val % 2) + 256 * (c.val / 2 % 2)
def offDg (c : Dev nD) : ℕ := 512 * (1 - c.val % 2) + 256 * (1 - c.val / 2 % 2)

/-- The first row of device `c`'s slot `s`. -/
def dRow (c : Dev nD) (s : Fin 27) : ℕ :=
  if s.val < 8 then offMy c + 32 * s.val else if s.val = 8 then offDg c
  else if s.val < 17 then offY c + 32 * (s.val - 9) else if s.val = 17 then offDg c + 96
  else if s.val < 26 then offZ c + 32 * (s.val - 18) else offDg c + 176

/-! ## The program's index chains, by slot -/

/-- Where the wait for slot `s` and the copy of its rows point. -/
def recvOff (d : Dev nD) (s : Fin 27) : Fin 2 → ℕ :=
  if s.val < 8 then k0_off2 d (BitVec.ofNat 32 (32 * s.val)) else if s.val = 8 then k0_off4 d
  else if s.val < 17 then k0_off7 d (BitVec.ofNat 32 (32 * (s.val - 9))) else if s.val = 17 then k0_off17 d 96#32
  else if s.val < 26 then k0_off10 d (BitVec.ofNat 32 (32 * (s.val - 18))) else k0_off17 d 176#32

/-- Where slot `s`'s rows are loaded, and their result stored. -/
def loadOff (d : Dev nD) (s : Fin 27) : Fin 2 → ℕ :=
  if s.val < 8 then k0_off5 d (BitVec.ofNat 32 (32 * s.val)) else if s.val = 8 then k0_off15 d
  else if s.val < 17 then k0_off8 d (BitVec.ofNat 32 (32 * (s.val - 9))) else if s.val = 17 then k0_off18 d 96#32
  else if s.val < 26 then k0_off11 d (BitVec.ofNat 32 (32 * (s.val - 18))) else k0_off18 d 176#32

/-- Where the device's own summand of slot `s`'s rows is loaded. -/
def pOff (d : Dev nD) (s : Fin 27) : Fin 3 → ℕ :=
  if s.val < 8 then k0_off6 d (BitVec.ofNat 32 (32 * s.val)) else if s.val = 8 then k0_off16 d
  else if s.val < 17 then k0_off9 d (BitVec.ofNat 32 (32 * (s.val - 9))) else if s.val = 17 then k0_off19 d 96#32
  else if s.val < 26 then k0_off12 d (BitVec.ofNat 32 (32 * (s.val - 18))) else k0_off19 d 176#32

/-- The rows, here and on the receiver, that send `s` moves. -/
def sendOff (d : Dev nD) (s : Fin 27) : Fin 2 → ℕ :=
  if s.val < 8 then k0_off2 d (BitVec.ofNat 32 (32 * s.val)) else if s.val = 8 then k0_off4 d
  else if s.val < 17 then k0_off2 d (BitVec.ofNat 32 (32 * (s.val - 9))) else if s.val = 17 then k0_off13 d
  else if s.val < 26 then k0_off2 d (BitVec.ofNat 32 (32 * (s.val - 18))) else k0_off14 d

/-- Where the rows for the `x` neighbour are loaded. -/
def pSendOff (d : Dev nD) (s : Fin 27) : Fin 3 → ℕ :=
  if s.val < 8 then k0_off1 d (BitVec.ofNat 32 (32 * s.val)) else k0_off3 d

/-- Where they are staged. -/
def stageOff (s : Fin 27) : Fin 2 → ℕ := ![32 * s.val, 0]

/-- The semaphore of the copy that writes slot `s`'s result. -/
def cIdx (s : Fin 27) : ℕ :=
  if s.val < 8 then s.val else if s.val = 8 then 24
  else if s.val < 17 then 8 + 2 * (s.val - 9) else if s.val = 17 then 25
  else if s.val < 26 then 9 + 2 * (s.val - 18) else 26

theorem recvOff_eq : ∀ (c : Dev nD) (s : Fin 27), recvOff c s = ![dRow c s, 0] := by decide +kernel
theorem loadOff_eq : ∀ (c : Dev nD) (s : Fin 27), loadOff c s = ![dRow c s, 0] := by decide +kernel
theorem pOff_eq : ∀ (c : Dev nD) (s : Fin 27), pOff c s = ![0, 1024 * cx c + dRow c s, 0] := by decide +kernel
theorem sendOff_eq : ∀ (c : Dev nD) (s : Fin 27), sendOff c s = ![dRow (peer c s) s, 0] := by decide +kernel
theorem pSendOff_eq : ∀ (c : Dev nD) (s : Fin 27), s.val < 9 →
    pSendOff c s = ![0, 1024 * cx (px c) + dRow (px c) s, 0] := by decide +kernel

theorem dLen_pos : ∀ s, 0 < dLen s := by decide
theorem dRow_le : ∀ (c : Dev nD) (s : Fin 27), dRow c s + dLen s ≤ 1024 := by decide +kernel
theorem dRow_even : ∀ (c : Dev nD) (s : Fin 27), 2 ∣ dRow c s := by decide +kernel
theorem dLen_even : ∀ s, 2 ∣ dLen s := by decide +kernel
theorem cIdx_lt : ∀ s, cIdx s < 27 := by decide +kernel
theorem cIdx_inj : ∀ s t, cIdx s = cIdx t → s = t := by decide +kernel
theorem peer_peer : ∀ (c : Dev nD) (s : Fin 27), peer (peer c s) s = c := by decide +kernel
theorem cx_le (c : Dev nD) : cx c ≤ 1 := by have : c.val < 8 := c.isLt; unfold cx; omega

/-- A stretch of whole rows lies inside its array. -/
theorem inb2 {N n : ℕ} {o : Fin 2 → ℕ} {r : ℕ} (ho : o = ![r, 0]) (h : r + n ≤ N) :
    ∀ a, o a + (Sn n).size a ≤ (Sn N).size a := by
  subst ho
  exact Fin.forall_fin_two.mpr ⟨h, Nat.le_refl 1024⟩

theorem inb3 {N n : ℕ} {o : Fin 3 → ℕ} {r : ℕ} (ho : o = ![0, r, 0]) (h : r + n ≤ N) :
    ∀ a, o a + (S1n n).size a ≤ (S1n N).size a := by
  subst ho
  intro a
  match a with
  | 0 => exact Nat.le_refl 1
  | 1 => exact h
  | 2 => exact Nat.le_refl 1024

theorem recv_inb (c : Dev nD) (s : Fin 27) : ∀ a, recvOff c s a + (Sn (dLen s)).size a ≤ S1024x1024.size a :=
  inb2 (recvOff_eq c s) (dRow_le c s)
theorem load_inb (c : Dev nD) (s : Fin 27) : ∀ a, loadOff c s a + (Sn (dLen s)).size a ≤ S1024x1024.size a :=
  inb2 (loadOff_eq c s) (dRow_le c s)
theorem send_inb (c : Dev nD) (s : Fin 27) : ∀ a, sendOff c s a + (Sn (dLen s)).size a ≤ S1024x1024.size a :=
  inb2 (sendOff_eq c s) (dRow_le _ s)
theorem p_inb (c : Dev nD) (s : Fin 27) : ∀ a, pOff c s a + (S1n (dLen s)).size a ≤ S1x2048x1024.size a :=
  inb3 (pOff_eq c s) (by have := dRow_le c s; have := cx_le c; omega)
theorem pSend_inb (c : Dev nD) (s : Fin 27) (hs : s.val < 9) :
    ∀ a, pSendOff c s a + (S1n (dLen s)).size a ≤ S1x2048x1024.size a :=
  inb3 (pSendOff_eq c s hs) (by have := dRow_le (px c) s; have := cx_le (px c); omega)
theorem stage_le : ∀ s : Fin 27, s.val < 9 → 32 * s.val + dLen s ≤ 352 := by decide +kernel
theorem stage_inb (s : Fin 27) (hs : s.val < 9) : ∀ a, stageOff s a + (Sn (dLen s)).size a ≤ S352x1024.size a :=
  inb2 rfl (stage_le s hs)

end Cert.KP

end
-- ==== Proof.Prog.lean ====
/-
# The kernel's body as a list of steps

The body is a straight line of some six hundred memory operations, in windows that cut through its natural steps.
Here it is written as what it is: the handshake, then a list of steps of six kinds, each naming one of the 27 slots.
That the two are the same program is a definitional equality (`body_eq`).
-/
module

public import proofs.«01_k».proof.Proof.Geo
public import proofs.«01_k».proof.Proof.Gen.KernelIdeal.Skeleton

@[expose] public section

noncomputable section

namespace Cert.KP

open Cert.KernelIdeal Cert.KernelIdeal.Gen
open Idealize.ShloMosaic Idealize.SL.Sem

variable {F : FTy → Type} [FloatOps F]

/-! ## The views -/

/-- `n` rows of the receive buffer, of the staging buffer, of the result's staging buffer, of the result. -/
abbrev commAt {n : ℕ} (o : Fin 2 → ℕ) (h : ∀ a, o a + (Sn n).size a ≤ S1024x1024.size a) : Memref sig .tc .vmem (Sn n) .bf16 :=
  (Memref.whole cc0_scratch0).slice (Rect.unit (s := S1024x1024) o (Sn n).size h) (fun _ => rfl)
abbrev stageAt {n : ℕ} (o : Fin 2 → ℕ) (h : ∀ a, o a + (Sn n).size a ≤ S352x1024.size a) : Memref sig .tc .vmem (Sn n) .bf16 :=
  (Memref.whole cc0_scratch1).slice (Rect.unit (s := S352x1024) o (Sn n).size h) (fun _ => rfl)
abbrev ostAt {n : ℕ} (o : Fin 2 → ℕ) (h : ∀ a, o a + (Sn n).size a ≤ S1024x1024.size a) : Memref sig .tc .vmem (Sn n) .f32 :=
  (Memref.whole cc0_scratch2).slice (Rect.unit (s := S1024x1024) o (Sn n).size h) (fun _ => rfl)
abbrev outAt {n : ℕ} (o : Fin 2 → ℕ) (h : ∀ a, o a + (Sn n).size a ≤ S1024x1024.size a) : Memref sig .tc .hbm (Sn n) .f32 :=
  (Memref.whole main_v1).slice (Rect.unit (s := S1024x1024) o (Sn n).size h) (fun _ => rfl)

theorem comm_words {n : ℕ} {o : Fin 2 → ℕ} (h : ∀ a, o a + (Sn n).size a ≤ S1024x1024.size a) (ho : 2 ∣ o 0) (hn : 2 ∣ n) :
    (commAt o h).view.WordExact :=
  View.wordExact_slice_whole cc0_scratch0 rfl _ (Nat.le_refl 2) rfl ho hn
theorem stage_words {n : ℕ} {o : Fin 2 → ℕ} (h : ∀ a, o a + (Sn n).size a ≤ S352x1024.size a) (ho : 2 ∣ o 0) (hn : 2 ∣ n) :
    (stageAt o h).view.WordExact :=
  View.wordExact_slice_whole cc0_scratch1 rfl _ (Nat.le_refl 2) rfl ho hn
theorem ost_words {n : ℕ} {o : Fin 2 → ℕ} (h : ∀ a, o a + (Sn n).size a ≤ S1024x1024.size a) :
    (ostAt o h).view.WordExact := View.wordExact_bits rfl
theorem out_words {n : ℕ} {o : Fin 2 → ℕ} (h : ∀ a, o a + (Sn n).size a ≤ S1024x1024.size a) :
    (outAt o h).view.WordExact := View.wordExact_bits rfl
theorem stage_stores {n : ℕ} {o : Fin 2 → ℕ} (h : ∀ a, o a + (Sn n).size a ≤ S352x1024.size a) (hp : 0 < (Sn n).numel)
    (ho : 2 ∣ o 0) (hn : 2 ∣ n) :
    ((Memref.whole cc0_scratch1).access (Rect.unit (s := S352x1024) o (Sn n).size h)).Stores Finset.univ :=
  View.stores_vmem hp (View.storeExact_slice_whole cc0_scratch1 rfl _ (Nat.le_refl 2) rfl ho hn) (fun _ => rfl)
theorem ost_stores {n : ℕ} {o : Fin 2 → ℕ} (h : ∀ a, o a + (Sn n).size a ≤ S1024x1024.size a) (hp : 0 < (Sn n).numel) :
    ((Memref.whole cc0_scratch2).access (Rect.unit (s := S1024x1024) o (Sn n).size h)).Stores Finset.univ :=
  View.stores_vmem_bits_univ hp rfl

theorem numel_Sn (n : ℕ) : (Sn n).numel = n * 1024 := by simp [Shape.numel, Fin.prod_univ_two]
theorem numel_S1n (n : ℕ) : (S1n n).numel = n * 1024 := by simp [Shape.numel, Fin.prod_univ_three]
theorem Sn_pos (s : Fin 27) : 0 < (Sn (dLen s)).numel := by rw [numel_Sn]; have := dLen_pos s; omega
theorem S1n_pos (s : Fin 27) : 0 < (S1n (dLen s)).numel := by rw [numel_S1n]; have := dLen_pos s; omega
theorem casts3 (n : ℕ) : (S1n n).ShapeCasts (Sn n) := by rw [Shape.ShapeCasts, numel_Sn, numel_S1n]
theorem casts1 (n : ℕ) : (⟨1, ![n]⟩ : Shape).ShapeCasts ⟨2, ![n, 1]⟩ := by
  simp [Shape.ShapeCasts, Shape.numel, Fin.prod_univ_two]
theorem reduces (n : ℕ) : (Sn n).Reduces [1] ⟨1, ![n]⟩ := by
  refine ⟨rfl, Nat.one_pos, Fin.forall_fin_one.mpr rfl⟩
theorem bcast (n : ℕ) : (⟨2, ![n, 1]⟩ : Shape).Broadcasts (Sn n) := by
  refine ⟨Nat.le_refl 2, Fin.forall_fin_two.mpr ⟨.inr fun _ => rfl, .inl rfl⟩⟩
theorem bcastG (n : ℕ) : S1x1024.Broadcasts (Sn n) := by
  refine ⟨Nat.le_refl 2, Fin.forall_fin_two.mpr ⟨.inl rfl, .inr fun _ => rfl⟩⟩

/-! ## What one step computes -/

/-- The rows sent along `x`, rounded. -/
def xPay (n : ℕ) (p : Vec F (S1n n) .f32) : FVec F (Sn n) .bf16 :=
  shapeCast (Sn n) (truncf .bf16 (shapeCast (Sn n) p (casts3 n)) bitsLt_bf16_f32) rfl

/-- The sum of the received rows and the device's own. -/
def ySum (n : ℕ) (m : Vec F (Sn n) .bf16) (p : Vec F (S1n n) .f32) : FVec F (Sn n) .f32 :=
  addf (extf .f32 m bitsLt_bf16_f32) (shapeCast (Sn n) p (casts3 n))

/-- A row divided by the root of its mean square. -/
def yNorm (n : ℕ) (y : FVec F (Sn n) .f32) : FVec F (Sn n) .f32 :=
  mulf y (broadcastTo (Sn n)
    (rsqrt (addf (divf (shapeCast (⟨2, ![n, 1]⟩ : Shape)
        (multiReduction .add [1] (⟨1, ![n]⟩ : Shape) (mulf y y) 0x00000000#32 (reduces n) (.inl rfl) rfl) (casts1 n))
      (broadcast (⟨2, ![n, 1]⟩ : Shape) (Scalar.ofBits .f32 0x44800000#32)))
      (broadcast (⟨2, ![n, 1]⟩ : Shape) (Scalar.ofBits .f32 0x358637BD#32)))) (bcast n))

/-- The rows of the result. -/
def rowPay (n : ℕ) (m : Vec F (Sn n) .bf16) (p : Vec F (S1n n) .f32) (g : Vec F S1024 .f32) : FVec F (Sn n) .f32 :=
  shapeCast (Sn n) (mulf (yNorm n (ySum n m p))
    (broadcastTo (Sn n) (shapeCast S1x1024 (shapeCast S1024 g shapeCasts_S1024_S1024) shapeCasts_S1024_S1x1024) (bcastG n))) rfl

/-! ## The steps -/

theorem inb27 (s : ℕ) (h : s < 27) : ∀ a, (![s] : Fin 1 → ℕ) a + S1.size a ≤ S27.size a :=
  Fin.forall_fin_one.mpr h

/-- The `s`-th semaphore of an array of 27. -/
abbrev semAt (A : DmaSems sig S27) (s : ℕ) (h : s < 27) : DmaSem sig :=
  ((A.slice (Rect.unit (s := S27) ![s] S1.size (inb27 s h))).squeeze S_ squeezes_S1_S_).sem

theorem recv_even (c : Dev nD) (s : Fin 27) : 2 ∣ recvOff c s 0 := by rw [recvOff_eq]; exact dRow_even c s
theorem send_even (c : Dev nD) (s : Fin 27) : 2 ∣ sendOff c s 0 := by rw [sendOff_eq]; exact dRow_even _ s
theorem stage_even (s : Fin 27) : 2 ∣ stageOff s 0 := ⟨16 * s.val, by show 32 * s.val = _; omega⟩

/-- A step of the body after the handshake. -/
inductive St where
  /-- Stage slot `s`'s rows and send them to the neighbour along `x`. -/
  | stage (s : Fin 27) (h : s.val < 9)
  /-- Wait for slot `s`'s rows to arrive. -/
  | recv (s : Fin 27)
  /-- Send rows already received on, along `y` or `z`. -/
  | send (s : Fin 27)
  /-- Compute slot `s`'s rows of the result and start their copy to it. -/
  | comp (s : Fin 27)
  /-- Wait for send `s` along `x`, whose source is the staging buffer. -/
  | sentX (s : Fin 27) (h : s.val < 9)
  /-- Wait for send `s` along `y` or `z`, whose source is the receive buffer. -/
  | sent (s : Fin 27)
  /-- Wait for the copy of slot `s`'s rows to the result. -/
  | copied (s : Fin 27)

abbrev PT : Type → Type := TpuEff nD τ sig (Elt F) Λ₀ .tc

/-- One step of device `d`, then the rest. -/
def St.prog (d : Dev nD) : St → Prog (PT (F := F)) PUnit → Prog (PT (F := F)) PUnit
  | .stage s h, k =>
    .op (.load (Memref.whole cc0_stg0_0) (Rect.unit (s := S1x2048x1024) (pSendOff d s) (S1n (dLen s)).size (pSend_inb d s h)).toLoadRect
      (View.loadsAt_vmem (S1n_pos s))) fun v =>
    .op (.load (Memref.whole cc0_scratch1) (Rect.unit (s := S352x1024) (stageOff s) (Sn (dLen s)).size (stage_inb s h)).toLoadRect
      (View.loadsAt_vmem (Sn_pos s))) fun _ =>
    .op (.store (Memref.whole cc0_scratch1) (Rect.unit (s := S352x1024) (stageOff s) (Sn (dLen s)).size (stage_inb s h)) (xPay (dLen s) v)
      Finset.univ (stage_stores _ (Sn_pos s) (stage_even s) (dLen_even s)) (.inl rfl)) fun _ =>
    .op (.enqueueDma (stageAt (stageOff s) (stage_inb s h))
      (.remote (Dev.tc (peer d s)) (commAt (sendOff d s) (send_inb d s)) (.dma (semAt cc0_scratch3 s.val s.isLt)))
      (.dma (semAt cc0_scratch4 s.val s.isLt)) (stage_words _ (stage_even s) (dLen_even s)) (comm_words _ (send_even d s) (dLen_even s))
      ⟨⟨rfl, Or.inl rfl⟩, trivial⟩) fun _ => k
  | .recv s, k =>
    .op (.waitDma2 (semAt cc0_scratch4 s.val s.isLt) (commAt (recvOff d s) (recv_inb d s)) (commAt (recvOff d s) (recv_inb d s))
      (comm_words _ (recv_even d s) (dLen_even s)) (comm_words _ (recv_even d s) (dLen_even s))) fun _ => k
  | .send s, k =>
    .op (.enqueueDma (commAt (sendOff d s) (send_inb d s))
      (.remote (Dev.tc (peer d s)) (commAt (sendOff d s) (send_inb d s)) (.dma (semAt cc0_scratch3 s.val s.isLt)))
      (.dma (semAt cc0_scratch4 s.val s.isLt)) (comm_words _ (send_even d s) (dLen_even s)) (comm_words _ (send_even d s) (dLen_even s))
      ⟨⟨rfl, Or.inl rfl⟩, trivial⟩) fun _ => k
  | .comp s, k =>
    .op (.load (Memref.whole cc0_scratch0) (Rect.unit (s := S1024x1024) (loadOff d s) (Sn (dLen s)).size (load_inb d s)).toLoadRect
      (View.loadsAt_vmem (Sn_pos s))) fun m =>
    .op (.load (Memref.whole cc0_stg0_0) (Rect.unit (s := S1x2048x1024) (pOff d s) (S1n (dLen s)).size (p_inb d s)).toLoadRect
      (View.loadsAt_vmem (S1n_pos s))) fun p =>
    .op (.load (Memref.whole cc0_stg1_0) (Rect.unit (s := S1024) ![0] S1024.size inb_S1024_S1024_0).toLoadRect
      (View.loadsAt_vmem h_S1024)) fun g =>
    .op (.load (Memref.whole cc0_scratch2) (Rect.unit (s := S1024x1024) (loadOff d s) (Sn (dLen s)).size (load_inb d s)).toLoadRect
      (View.loadsAt_vmem (Sn_pos s))) fun _ =>
    .op (.store (Memref.whole cc0_scratch2) (Rect.unit (s := S1024x1024) (loadOff d s) (Sn (dLen s)).size (load_inb d s))
      (rowPay (dLen s) m p g) Finset.univ (ost_stores _ (Sn_pos s)) (.inl rfl)) fun _ =>
    .op (.enqueueDma (ostAt (recvOff d s) (recv_inb d s)) (.here (outAt (recvOff d s) (recv_inb d s)))
      (.dma (semAt cc0_scratch5 (cIdx s) (cIdx_lt s))) (ost_words _) (out_words _) ⟨Or.inl rfl, trivial⟩) fun _ => k
  | .sentX s h, k =>
    .op (.waitDma2 (semAt cc0_scratch3 s.val s.isLt) (commAt (sendOff d s) (send_inb d s)) (stageAt (stageOff s) (stage_inb s h))
      (comm_words _ (send_even d s) (dLen_even s)) (stage_words _ (stage_even s) (dLen_even s))) fun _ => k
  | .sent s, k =>
    .op (.waitDma2 (semAt cc0_scratch3 s.val s.isLt) (commAt (sendOff d s) (send_inb d s)) (commAt (sendOff d s) (send_inb d s))
      (comm_words _ (send_even d s) (dLen_even s)) (comm_words _ (send_even d s) (dLen_even s))) fun _ => k
  | .copied s, k =>
    .op (.waitDma2 (semAt cc0_scratch5 (cIdx s) (cIdx_lt s)) (ostAt (recvOff d s) (recv_inb d s)) (outAt (recvOff d s) (recv_inb d s))
      (ost_words _) (out_words _)) fun _ => k

/-- A list of steps. -/
def prog (d : Dev nD) (l : List St) : Prog (PT (F := F)) PUnit := l.foldr (St.prog d) (.ret ⟨⟩)

/-- The whole body after the handshake. -/
def steps : List St :=
  [.stage 0 (by decide), .stage 1 (by decide), .stage 2 (by decide), .stage 3 (by decide), .stage 4 (by decide),
   .stage 5 (by decide), .stage 6 (by decide), .stage 7 (by decide), .stage 8 (by decide),
   .recv 0, .send 9, .send 18, .comp 0, .recv 1, .send 10, .send 19, .comp 1, .recv 2, .send 11, .send 20, .comp 2,
   .recv 3, .send 12, .send 21, .comp 3, .recv 4, .send 13, .send 22, .comp 4, .recv 5, .send 14, .send 23, .comp 5,
   .recv 6, .send 15, .send 24, .comp 6, .recv 7, .send 16, .send 25, .comp 7,
   .recv 9, .comp 9, .recv 18, .comp 18, .recv 10, .comp 10, .recv 19, .comp 19, .recv 11, .comp 11, .recv 20, .comp 20,
   .recv 12, .comp 12, .recv 21, .comp 21, .recv 13, .comp 13, .recv 22, .comp 22,
   .recv 14, .comp 14, .recv 23, .send 17, .comp 23, .recv 15, .comp 15, .recv 24, .comp 24,
   .recv 16, .send 26, .comp 16, .recv 25, .comp 25,
   .recv 8, .comp 8, .recv 17, .comp 17, .recv 26, .comp 26,
   .sentX 0 (by decide), .sentX 1 (by decide), .sentX 2 (by decide), .sentX 3 (by decide), .sentX 4 (by decide),
   .sentX 5 (by decide), .sentX 6 (by decide), .sentX 7 (by decide), .sentX 8 (by decide),
   .sent 9, .sent 18, .sent 10, .sent 19, .sent 11, .sent 20, .sent 12, .sent 21, .sent 13, .sent 22, .sent 14, .sent 23,
   .sent 15, .sent 24, .sent 16, .sent 25, .sent 17, .sent 26,
   .copied 0, .copied 1, .copied 2, .copied 3, .copied 4, .copied 5, .copied 6, .copied 7,
   .copied 9, .copied 18, .copied 10, .copied 19, .copied 11, .copied 20, .copied 12, .copied 21, .copied 13, .copied 22,
   .copied 14, .copied 23, .copied 15, .copied 24, .copied 16, .copied 25, .copied 8, .copied 17, .copied 26]

/-- The barrier's semaphore. -/
abbrev barS : Sem sig := sig.barrier 0 rfl

/-- The body: the handshake with the three neighbours, then the steps. -/
def body : Prog (PT (F := F)) PUnit :=
  .op .deviceId fun d =>
  .op (.semSignal (Dev.tc (px d)) barS 1) fun _ => .op (.semSignal (Dev.tc (py d)) barS 1) fun _ =>
  .op (.semSignal (Dev.tc (pz d)) barS 1) fun _ => .op (.semWait barS 3) fun _ => prog d steps

set_option maxRecDepth 65536 in
theorem body_eq : cc0_body (F := F) (Memref.whole cc0_stg0_0) (Memref.isWhole_whole _) (Memref.whole cc0_stg1_0) (Memref.isWhole_whole _)
    (Memref.whole main_v1) (Memref.isWhole_whole _) (Memref.whole cc0_scratch0) (Memref.isWhole_whole _)
    (Memref.whole cc0_scratch1) (Memref.isWhole_whole _) (Memref.whole cc0_scratch2) (Memref.isWhole_whole _)
    cc0_scratch3 cc0_scratch4 cc0_scratch5 = body := rfl

end Cert.KP

end
-- ==== Proof.Vals.lean ====
/-
# What every buffer holds

From the devices' summands `P` (two times 1024 rows each) and their weights `G`: what a device's receive buffer holds
once every slot has arrived, and what its result holds. The rows of a slot are one rectangle of the buffer; the lemmas
here say what is under it.
-/
module

public import proofs.«01_k».proof.Proof.Prog
public import Idealize.ShloMosaic.Lib.Pipeline.Value

@[expose] public section

noncomputable section

namespace Cert.KP

open Cert.KernelIdeal Cert.KernelIdeal.Gen
open Idealize.ShloMosaic Idealize.SL.Sem

variable {F : FTy → Type} [FloatOps F]

/-! ## Rows -/

/-- The indices of `n` rows from row `a` on, in an array of `N`. -/
def rws (N a n : ℕ) : Finset (Sn N).Idx := Finset.univ.filter fun i => a ≤ (i 0).val ∧ (i 0).val < a + n

theorem mem_rws {N a n : ℕ} {i : (Sn N).Idx} : i ∈ rws N a n ↔ a ≤ (i 0).val ∧ (i 0).val < a + n := by
  simp [rws]

/-- A stretch of whole rows as a rectangle. -/
abbrev rectOf (N n : ℕ) (o : Fin 2 → ℕ) (h : ∀ a, o a + (Sn n).size a ≤ (Sn N).size a) : Rect (Sn N) :=
  Rect.unit (s := Sn N) o (Sn n).size h

theorem rect_set {N n : ℕ} {o : Fin 2 → ℕ} {a : ℕ} (h : ∀ a, o a + (Sn n).size a ≤ (Sn N).size a) (ho : o = ![a, 0]) :
    (rectOf N n o h).set = rws N a n := by
  subst ho
  ext i
  rw [Rect.mem_set_unit, mem_rws]
  constructor
  · exact fun hh => hh 0
  · intro hh j
    match j with
    | 0 => exact hh
    | 1 => exact ⟨Nat.zero_le _, by have : (i 1).val < 1024 := (i 1).isLt; show (i 1).val < 0 + 1024; omega⟩

/-- The index under position `k` of `n` rows from row `a` on. -/
def rowIx {N n : ℕ} (a : ℕ) (h : a + n ≤ N) (k : (Sn n).Idx) : (Sn N).Idx := fun
  | 0 => ⟨a + (k 0).val, by have : (k 0).val < n := (k 0).isLt; show _ < N; omega⟩
  | 1 => k 1

theorem rect_emb {N n : ℕ} {o : Fin 2 → ℕ} {a : ℕ} (h : ∀ a, o a + (Sn n).size a ≤ (Sn N).size a) (ho : o = ![a, 0])
    (hN : a + n ≤ N) (k : (Sn n).Idx) : (rectOf N n o h).emb k = rowIx a hN k := by
  subst ho
  funext j
  match j with
  | 0 => exact Fin.ext (by rw [Rect.emb_apply]; show a + 1 * (k 0).val = a + (k 0).val; omega)
  | 1 => exact Fin.ext (by rw [Rect.emb_apply]; show 0 + 1 * (k 1).val = (k 1).val; omega)

theorem rws_ex {N a n : ℕ} (h : a + n ≤ N) {i : (Sn N).Idx} (hi : i ∈ rws N a n) : ∃ k : (Sn n).Idx, i = rowIx a h k := by
  obtain ⟨h1, h2⟩ := mem_rws.mp hi
  refine ⟨fun | 0 => ⟨(i 0).val - a, by show _ < n; omega⟩ | 1 => i 1, ?_⟩
  funext j
  match j with
  | 0 => exact Fin.ext (by show (i 0).val = a + ((i 0).val - a); omega)
  | 1 => rfl

theorem rowIx_mem {N a n : ℕ} (h : a + n ≤ N) (k : (Sn n).Idx) : rowIx a h k ∈ rws N a n :=
  mem_rws.mpr ⟨Nat.le_add_right a _, Nat.add_lt_add_left (k 0).isLt a⟩

theorem rws_disjoint {N a n b m : ℕ} (h : a + n ≤ b ∨ b + m ≤ a) : Disjoint (rws N a n) (rws N b m) :=
  Finset.disjoint_left.mpr fun i h1 h2 => by
    have := mem_rws.mp h1; have := mem_rws.mp h2; omega

/-! ## The receive buffer -/

/-- Where the rows of a receive buffer were summands: `r`-th row of device `c`'s buffer. The rows of the slots from
    along `x` come from the neighbour there; the rest was sent on, from the device that received it along `x`. -/
def org (c : Dev nD) (r : ℕ) : Dev nD :=
  if offDg c ≤ r ∧ r < offDg c + 96 then px c
  else ⟨4 * (1 - cx c) + 2 * (r / 256 % 2) + r / 512 % 2, by show _ < 8; omega⟩

theorem org_x : ∀ (c : Dev nD) (s : Fin 27), s.val < 9 → ∀ k : Fin 96, k.val < dLen s → org c (dRow c s + k.val) = px c := by
  decide +kernel
theorem org_yz : ∀ (c : Dev nD) (s : Fin 27), 9 ≤ s.val → ∀ k : Fin 96, k.val < dLen s →
    org (peer c s) (dRow (peer c s) s + k.val) = org c (dRow (peer c s) s + k.val) := by
  decide +kernel
theorem dLen_le : ∀ s : Fin 27, dLen s ≤ 96 := by decide
theorem cx_peer : ∀ (c : Dev nD) (s : Fin 27), 9 ≤ s.val → cx (peer c s) = cx c := by decide +kernel
theorem px_px : ∀ c : Dev nD, px (px c) = c := by decide +kernel
theorem peer_x : ∀ (c : Dev nD) (s : Fin 27), s.val < 9 → peer c s = px c := by decide +kernel

/-- Column `l` of row `r` of device `c`'s half of a device's summand. -/
def pIdx (c : Dev nD) (r : Fin 1024) (l : Fin 1024) : S1x2048x1024.Idx := fun
  | 0 => (0 : Fin 1)
  | 1 => ⟨1024 * cx c + r.val, by show _ < 2048; have := cx_le c; omega⟩
  | 2 => l

variable (P : Dev nD → Vec F S1x2048x1024 .f32) (G : Dev nD → Vec F S1024 .f32)

/-- The receive buffer of `c` before rounding, and after. -/
def commW (c : Dev nD) : FVec F S1024x1024 .f32 := fun i => P (org c (i 0).val) (pIdx c (i 0) (i 1))
def commV (c : Dev nD) : FVec F S1024x1024 .bf16 := truncf .bf16 (commW P c) bitsLt_bf16_f32

/-- The rows of slot `s` of the receive buffer, the device's own summand there. -/
def mCh (c : Dev nD) (s : Fin 27) : Vec F (Sn (dLen s)) .bf16 := fun k => commV P c (rowIx (dRow c s) (dRow_le c s) k)
def pCh (c : Dev nD) (s : Fin 27) : Vec F (S1n (dLen s)) .f32 := fun k =>
  P c (pIdx c ⟨dRow c s + (k 1).val, Nat.lt_of_lt_of_le (Nat.add_lt_add_left (k 1).isLt _) (dRow_le c s)⟩ (k 2))

/-- What `c` sends along `x` in slot `s`. -/
def pSnd (c : Dev nD) (s : Fin 27) : Vec F (S1n (dLen s)) .f32 := fun k =>
  P c (pIdx (px c) ⟨dRow (px c) s + (k 1).val, Nat.lt_of_lt_of_le (Nat.add_lt_add_left (k 1).isLt _) (dRow_le (px c) s)⟩ (k 2))

/-- The slot row `r` of device `c` belongs to. -/
def slotOf (c : Dev nD) (r : ℕ) : Fin 27 :=
  ((List.finRange 27).find? fun s => decide (dRow c s ≤ r ∧ r < dRow c s + dLen s)).getD 0

/-- Two slots share no row. -/
theorem dRow_apart : ∀ (c : Dev nD) (s t : Fin 27), s ≠ t → dRow c s + dLen s ≤ dRow c t ∨ dRow c t + dLen t ≤ dRow c s := by
  decide +kernel

theorem slotOf_eq (c : Dev nD) (s : Fin 27) (k : ℕ) (hk : k < dLen s) : slotOf c (dRow c s + k) = s := by
  unfold slotOf
  cases h : (List.finRange 27).find? fun t => decide (dRow c t ≤ dRow c s + k ∧ dRow c s + k < dRow c t + dLen t) with
  | none =>
    have := List.find?_eq_none.mp h s (List.mem_finRange s)
    exact absurd (decide_eq_true (And.intro (Nat.le_add_right _ k) (Nat.add_lt_add_left hk _))) this
  | some t =>
    have ht := of_decide_eq_true (List.find?_some (p := fun t => decide (dRow c t ≤ dRow c s + k ∧ dRow c s + k < dRow c t + dLen t)) h)
    show t = s
    by_contra hne
    rcases dRow_apart c t s hne with h' | h' <;> omega

/-- The result of device `c`, slot by slot. -/
def outV (c : Dev nD) : Vec F S1024x1024 .f32 := fun i =>
  rowPay (dLen (slotOf c (i 0).val)) (mCh P c (slotOf c (i 0).val)) (pCh P c (slotOf c (i 0).val)) (G c) (fun
    | 0 => ⟨((i 0).val - dRow c (slotOf c (i 0).val)) % dLen (slotOf c (i 0).val), Nat.mod_lt _ (dLen_pos _)⟩
    | 1 => i 1)

theorem outV_row (c : Dev nD) (s : Fin 27) (k : (Sn (dLen s)).Idx) :
    outV P G c (rowIx (dRow c s) (dRow_le c s) k) = rowPay (dLen s) (mCh P c s) (pCh P c s) (G c) k := by
  have hk : (k 0).val < dLen s := (k 0).isLt
  have key : ∀ (r : ℕ) (l : Fin 1024) (t : Fin 27), t = s → r = dRow c s + (k 0).val → l = k 1 →
      rowPay (dLen t) (mCh P c t) (pCh P c t) (G c) (fun
        | 0 => ⟨(r - dRow c t) % dLen t, Nat.mod_lt _ (dLen_pos _)⟩
        | 1 => l) = rowPay (dLen s) (mCh P c s) (pCh P c s) (G c) k := by
    intro r l t ht hr hl
    subst ht hr hl
    refine congrArg _ (funext fun j => ?_)
    match j with
    | 0 =>
      refine Fin.ext ?_
      show (dRow c t + (k 0).val - dRow c t) % dLen t = (k 0).val
      rw [Nat.add_sub_cancel_left, Nat.mod_eq_of_lt hk]
    | 1 => rfl
  exact key _ _ _ (slotOf_eq c s (k 0).val hk) rfl rfl

/-- What lands along `x` is what the receive buffer is to hold. -/
theorem xPay_eq (c : Dev nD) (s : Fin 27) (hs : s.val < 9) (k : (Sn (dLen s)).Idx) :
    xPay (dLen s) (pSnd P c s) k = commV P (px c) (rowIx (dRow (px c) s) (dRow_le (px c) s) k) := by
  have hk : (k 0).val < dLen s := (k 0).isLt
  unfold xPay commV
  rw [shapeCast_self]
  unfold truncf
  refine congrArg _ ?_
  rw [shapeCast_dropUnit_apply ![dLen s, 1024]]
  unfold commW pSnd
  have ho : org (px c) (dRow (px c) s + (k 0).val) = c :=
    (org_x (px c) s hs ⟨(k 0).val, lt_of_lt_of_le hk (dLen_le s)⟩ hk).trans (px_px c)
  show P c _ = P (org (px c) (dRow (px c) s + (k 0).val)) _
  rw [ho]
  rfl

/-- What is sent on is what the receiver's buffer is to hold. -/
theorem fwd_eq (c : Dev nD) (s : Fin 27) (hs : 9 ≤ s.val) (i : S1024x1024.Idx) (hi : i ∈ rws 1024 (dRow (peer c s) s) (dLen s)) :
    commV P c i = commV P (peer c s) i := by
  obtain ⟨k, rfl⟩ := rws_ex (dRow_le _ s) hi
  have hk : (k 0).val < dLen s := (k 0).isLt
  unfold commV truncf
  refine congrArg _ ?_
  unfold commW
  show P (org c (dRow (peer c s) s + (k 0).val)) _ = P (org (peer c s) (dRow (peer c s) s + (k 0).val)) _
  rw [org_yz c s hs ⟨(k 0).val, lt_of_lt_of_le hk (dLen_le s)⟩ hk]
  refine congrArg _ (funext fun j => ?_)
  match j with
  | 0 => rfl
  | 1 => exact Fin.ext (by show 1024 * cx c + _ = 1024 * cx (peer c s) + _; rw [cx_peer c s hs])
  | 2 => rfl

end Cert.KP

end
-- ==== Proof.Sched.lean ====
/-
# Who signals whom, with what

Every semaphore of every device is a cell with one round. A device's barrier cell is signalled by its three
neighbours, each handing over the rows of its own receive buffer that this device will write; a send cell returns the
source of its transfer, a receive cell brings the rows of its slot, a copy cell the rows of the result.
-/
module

public import proofs.«01_k».proof.Proof.Vals
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KP

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Assertions over a list -/

/-- `f a` for every `a` of a list, separately. -/
def sepL {A : Type} (f : A → sProp 𝕄) : List A → sProp 𝕄
  | [] => iprop(emp)
  | a :: l => iprop(f a ∗ sepL f l)

theorem sepL_nil {A : Type} (f : A → sProp 𝕄) : sepL f [] = iprop(emp) := rfl
theorem sepL_cons {A : Type} (f : A → sProp 𝕄) (a : A) (l : List A) : sepL f (a :: l) = iprop(f a ∗ sepL f l) := rfl

theorem sepL_map {A B : Type} (g : A → B) (f : B → sProp 𝕄) : ∀ l : List A, sepL f (l.map g) = sepL (fun a => f (g a)) l
  | [] => rfl
  | a :: l => by rw [List.map_cons, sepL_cons, sepL_cons, sepL_map g f l]

theorem sepL_append {A : Type} (f : A → sProp 𝕄) : ∀ l l' : List A, sepL f (l ++ l') ⊣⊢ iprop(sepL f l ∗ sepL f l')
  | [], l' => ⟨by iintro H; isplitr; · iempintro
                  iexact H, by iintro ⟨-, H⟩; iexact H⟩
  | a :: l, l' => by
    rw [List.cons_append, sepL_cons, sepL_cons]
    constructor
    · iintro ⟨H, H'⟩
      ihave H2 := (sepL_append f l l').1 $$ H'
      icases H2 with ⟨H2, H3⟩
      isplitl [H H2]
      · isplitl [H] <;> iassumption
      iexact H3
    · iintro ⟨⟨H, H2⟩, H3⟩
      isplitl [H]; · iexact H
      iapply (sepL_append f l l').2
      isplitl [H2] <;> iassumption

theorem sepL_mono {A : Type} {f g : A → sProp 𝕄} : ∀ {l : List A}, (∀ a ∈ l, f a ⊢ g a) → sepL f l ⊢ sepL g l
  | [], _ => Entails.refl _
  | a :: l, h => by
    rw [sepL_cons, sepL_cons]
    iintro ⟨H, H'⟩
    isplitl [H]
    · iapply (h a List.mem_cons_self); iexact H
    · iapply (sepL_mono (l := l) fun b hb => h b (List.mem_cons_of_mem _ hb)); iexact H'

theorem sepL_congr {A : Type} {f g : A → sProp 𝕄} : ∀ {l : List A}, (∀ a ∈ l, f a = g a) → sepL f l = sepL g l
  | [], _ => rfl
  | a :: l, h => by
    rw [sepL_cons, sepL_cons, h a List.mem_cons_self, sepL_congr (l := l) fun b hb => h b (List.mem_cons_of_mem _ hb)]

theorem sepL_sep {A : Type} (f g : A → sProp 𝕄) : ∀ l : List A, sepL (fun a => iprop(f a ∗ g a)) l ⊣⊢ iprop(sepL f l ∗ sepL g l)
  | [] => ⟨by iintro -; isplitr <;> iempintro, by iintro -; iempintro⟩
  | a :: l => by
    rw [sepL_cons, sepL_cons, sepL_cons]
    constructor
    · iintro ⟨⟨H1, H2⟩, H⟩
      ihave H' := (sepL_sep f g l).1 $$ H
      icases H' with ⟨H3, H4⟩
      isplitl [H1 H3]
      · isplitl [H1] <;> iassumption
      · isplitl [H2] <;> iassumption
    · iintro ⟨⟨H1, H3⟩, H2, H4⟩
      isplitl [H1 H2]
      · isplitl [H1] <;> iassumption
      iapply (sepL_sep f g l).2
      isplitl [H3] <;> iassumption

/-- A finite set's assertions, listed. -/
theorem bigSep_list {A : Type} [DecidableEq A] (f : A → sProp 𝕄) : ∀ (l : List A), l.Nodup → bigSep l.toFinset f = sepL f l
  | [], _ => by rw [List.toFinset_nil, bigSep_empty]; rfl
  | a :: l, h => by
    rw [List.toFinset_cons, bigSep_insert (by rw [List.mem_toFinset]; exact (List.nodup_cons.mp h).1), sepL_cons,
      bigSep_list f l (List.nodup_cons.mp h).2]
    rfl

theorem bigSep_fr (f : Fin 27 → sProp 𝕄) : bigSep Finset.univ f = sepL f (List.finRange 27) := by
  rw [← bigSep_list f _ (List.nodup_finRange 27)]
  congr 1

/-- One member of the list, and the others. -/
theorem sepL_take {A : Type} [DecidableEq A] (f : A → sProp 𝕄) (a : A) : ∀ l : List A, a ∈ l → sepL f l ⊢ iprop(f a ∗ sepL f (l.erase a))
  | b :: l, h => by
    rw [sepL_cons]
    by_cases hb : b = a
    · subst hb; rw [List.erase_cons_head]
    · rw [List.erase_cons_tail (by simpa using hb), sepL_cons]
      iintro ⟨H, H'⟩
      ihave H2 := (sepL_take f a l ((List.mem_cons.mp h).resolve_left fun e => hb e.symm)) $$ H'
      icases H2 with ⟨H2, H3⟩
      isplitl [H2]; · iexact H2
      isplitl [H] <;> iassumption

/-! ## The cells -/

abbrev barCell (c : Dev nD) : GSem nD τ sig := ((c : Thread nD τ), .reg barS)
abbrev qS (s : Fin 27) : DmaSem sig := semAt cc0_scratch3 s.val s.isLt
abbrev qR (s : Fin 27) : DmaSem sig := semAt cc0_scratch4 s.val s.isLt
abbrev qC (s : Fin 27) : DmaSem sig := semAt cc0_scratch5 (cIdx s) (cIdx_lt s)
abbrev sendCell (c : Dev nD) (s : Fin 27) : GSem nD τ sig := ((c : Thread nD τ), .dma (qS s))
abbrev recvCell (c : Dev nD) (s : Fin 27) : GSem nD τ sig := ((c : Thread nD τ), .dma (qR s))
abbrev copyCell (c : Dev nD) (s : Fin 27) : GSem nD τ sig := ((c : Thread nD τ), .dma (qC s))

theorem qS_val : ∀ s : Fin 27, (qS s).val = 2 + s.val := by decide +kernel
theorem qR_val : ∀ s : Fin 27, (qR s).val = 29 + s.val := by decide +kernel
theorem qC_val : ∀ s : Fin 27, (qC s).val = 56 + cIdx s := by decide +kernel

/-- The slot of a semaphore's number. -/
def slotQ (n : ℕ) : Fin 27 :=
  if n < 56 then ⟨(n - 2) % 27, Nat.mod_lt _ (by decide)⟩
  else ((List.finRange 27).find? fun s => decide (56 + cIdx s = n)).getD 0

theorem slotQ_S : ∀ s : Fin 27, slotQ (2 + s.val) = s := by decide +kernel
theorem slotQ_R : ∀ s : Fin 27, slotQ (29 + s.val) = s := by decide +kernel
theorem slotQ_C : ∀ s : Fin 27, slotQ (56 + cIdx s) = s := by decide +kernel

/-- What one transfer of slot `s` credits, and what the copy of its result does. -/
def NM (s : Fin 27) : ℕ := (commAt (n := dLen s) (recvOff 0 s) (recv_inb 0 s)).view.dmaCredit
def NO (s : Fin 27) : ℕ := (outAt (n := dLen s) (recvOff 0 s) (recv_inb 0 s)).view.dmaCredit
theorem NM_pos (s : Fin 27) : 0 < NM s := View.dmaCredit_pos _ (Sn_pos s)
theorem NO_pos (s : Fin 27) : 0 < NO s := View.dmaCredit_pos _ (Sn_pos s)

/-! ## Rows held -/

abbrev cLoc (c : Dev nD) : Loc nD τ sig := (c : Thread nD τ).loc cc0_scratch0
abbrev sLoc (c : Dev nD) : Loc nD τ sig := (c : Thread nD τ).loc cc0_scratch1
abbrev oLoc (c : Dev nD) : Loc nD τ sig := (c : Thread nD τ).loc cc0_scratch2
abbrev rLoc (c : Dev nD) : Loc nD τ sig := (c : Thread nD τ).loc main_v1

/-- `n` rows from row `a` on: of the receive buffer, of the staging buffer, of the result's staging buffer, of the result. -/
def cPt (c : Dev nD) (a n : ℕ) (q : PosShare TreeShare) (f : Buf (Elt F) (cLoc c)) : sProp 𝕄 := (cLoc c) ↦[rws 1024 a n]{q} f
def sPt (c : Dev nD) (a n : ℕ) (f : Buf (Elt F) (sLoc c)) : sProp 𝕄 := (sLoc c) ↦[rws 352 a n]{fullShare} f
def oPt (c : Dev nD) (a n : ℕ) (f : Buf (Elt F) (oLoc c)) : sProp 𝕄 := (oLoc c) ↦[rws 1024 a n]{fullShare} f
def rPt (c : Dev nD) (a n : ℕ) (f : Buf (Elt F) (rLoc c)) : sProp 𝕄 := (rLoc c) ↦[rws 1024 a n]{fullShare} f

instance (c : Dev nD) (a n : ℕ) (q) (f) : BI.Storable (upEmb : UEmb _ 𝕄) (cPt (F := F) c a n q f) := by unfold cPt; infer_instance
instance (c : Dev nD) (a n : ℕ) (f) : BI.Storable (upEmb : UEmb _ 𝕄) (sPt (F := F) c a n f) := by unfold sPt; infer_instance
instance (c : Dev nD) (a n : ℕ) (f) : BI.Storable (upEmb : UEmb _ 𝕄) (oPt (F := F) c a n f) := by unfold oPt; infer_instance
instance (c : Dev nD) (a n : ℕ) (f) : BI.Storable (upEmb : UEmb _ 𝕄) (rPt (F := F) c a n f) := by unfold rPt; infer_instance

/-- The slots part of which is sent on a second time, in one piece: as slot 17's rows, as slot 26's. -/
def split2 (s : Fin 27) : Bool := (14 ≤ s.val ∧ s.val ≤ 16) ∨ (21 ≤ s.val ∧ s.val ≤ 23)
/-- The share of a slot's rows the device keeps, once they are received; the share a transfer reads its rows at. -/
def qOwn (s : Fin 27) : PosShare TreeShare := if s.val < 8 then fullShare.left else if split2 s then fullShare.left else fullShare
def qSnd (s : Fin 27) : PosShare TreeShare :=
  if s.val < 17 then fullShare.right.left else if s.val = 17 then fullShare.right else if s.val < 26 then fullShare.right.right else fullShare.right

/-- The slots from along `x`, along `y`, along `z`. -/
def slots (d : Fin 3) : List (Fin 27) := (List.finRange 27).filter fun s => decide (s.val / 9 = d.val)
/-- The neighbours. -/
def nb (c : Dev nD) (d : Fin 3) : Dev nD := if d = 0 then px c else if d = 1 then py c else pz c

theorem peer_nb : ∀ (c : Dev nD) (d : Fin 3) (s : Fin 27), s ∈ slots d → peer c s = nb c d := by decide +kernel
theorem nb_nb : ∀ (c : Dev nD) (d : Fin 3), nb (nb c d) d = c := by decide +kernel

variable (P : Dev nD → Vec F S1x2048x1024 .f32) (G : Dev nD → Vec F S1024 .f32)

/-- The rows of slot `s` at `c`'s neighbour, any contents. -/
def landing (c : Dev nD) (s : Fin 27) : sProp 𝕄 := iprop(∃ f, cPt (F := F) (peer c s) (dRow (peer c s) s) (dLen s) fullShare f)
def barPay (c : Dev nD) (d : Fin 3) : sProp 𝕄 := sepL (landing (F := F) c) (slots d)
/-- The rows a transfer along `y` or `z` reads. -/
def fwd (c : Dev nD) (s : Fin 27) : sProp 𝕄 := cPt c (dRow (peer c s) s) (dLen s) (qSnd s) (commV P c)
/-- The staging rows of a transfer along `x`. -/
def stg (c : Dev nD) (s : Fin 27) : sProp 𝕄 := iprop(∃ f, sPt (F := F) c (32 * s.val) (dLen s) f)
def sendPay (c : Dev nD) (s : Fin 27) : sProp 𝕄 := if s.val < 9 then stg (F := F) c s else fwd P c s
def recvPay (c : Dev nD) (s : Fin 27) : sProp 𝕄 := cPt c (dRow c s) (dLen s) fullShare (commV P c)
def copyPay (c : Dev nD) (s : Fin 27) : sProp 𝕄 :=
  iprop(rPt c (dRow c s) (dLen s) (outV P G c) ∗ ∃ f, oPt (F := F) c (dRow c s) (dLen s) f)

theorem sepL_storable {A : Type} (f : A → sProp 𝕄) (h : ∀ a, BI.Storable (upEmb : UEmb _ 𝕄) (f a)) :
    ∀ l : List A, BI.Storable (upEmb : UEmb _ 𝕄) (sepL f l)
  | [] => by unfold sepL; infer_instance
  | a :: l => by unfold sepL; haveI := h a; haveI := sepL_storable f h l; infer_instance

instance (c : Dev nD) (s : Fin 27) : BI.Storable (upEmb : UEmb _ 𝕄) (landing (F := F) c s) := by unfold landing; infer_instance
instance (c : Dev nD) (d : Fin 3) : BI.Storable (upEmb : UEmb _ 𝕄) (barPay (F := F) c d) := by
  unfold barPay; exact sepL_storable _ (fun _ => inferInstance) _
instance (c : Dev nD) (s : Fin 27) : BI.Storable (upEmb : UEmb _ 𝕄) (sendPay (F := F) P c s) := by
  unfold sendPay stg fwd; split <;> infer_instance
instance (c : Dev nD) (s : Fin 27) : BI.Storable (upEmb : UEmb _ 𝕄) (recvPay (F := F) P c s) := by unfold recvPay; infer_instance
instance (c : Dev nD) (s : Fin 27) : BI.Storable (upEmb : UEmb _ 𝕄) (copyPay (F := F) P G c s) := by unfold copyPay; infer_instance

/-! ## The schedule -/

def dutiesOf : SemLoc sig → Finset (Fin 3)
  | .reg s => if s = barS then Finset.univ else ∅
  | .dma q => if 2 ≤ q.val then {0} else ∅
def amountOf : SemLoc sig → ℕ
  | .reg _ => 1
  | .dma q => if q.val < 56 then NM (slotQ q.val) else NO (slotQ q.val)
def payOf (c : Dev nD) (d : Fin 3) : SemLoc sig → sProp 𝕄
  | .reg _ => barPay (F := F) c d
  | .dma q => if q.val < 29 then sendPay P c (slotQ q.val) else if q.val < 56 then recvPay P c (slotQ q.val) else copyPay P G c (slotQ q.val)

instance (c : Dev nD) (d : Fin 3) (l : SemLoc sig) : BI.Storable (upEmb : UEmb _ 𝕄) (payOf (F := F) P G c d l) := by
  unfold payOf
  (repeat' split) <;> infer_instance

/-- One round, round 0. -/
def Rd : Rounds.Schedule (GSem nD τ sig) (Fin 3) 𝕄 where
  duties g r := if r = 0 ∧ g.1.2 = .tc then dutiesOf g.2 else ∅
  unitless _ := False
  amount g _ _ := amountOf g.2
  payload g _ d := payOf P G g.1.1 d g.2
  amount_pos g _ _ _ := by
    show 0 < amountOf g.2
    unfold amountOf
    split
    · exact Nat.one_pos
    · split
      · exact NM_pos _
      · exact NO_pos _

instance Rd_storable (g : GSem nD τ sig) (r : ℕ) (d : Fin 3) : BI.Storable (upEmb : UEmb _ 𝕄) ((Rd (F := F) P G).payload g r d) := by
  show BI.Storable upEmb (payOf P G g.1.1 d g.2); infer_instance

section Lookup
variable (c : Dev nD) (s : Fin 27)

theorem duties_zero (sm : SemLoc sig) : (Rd (F := F) P G).duties ((c : Thread nD τ), sm) 0 = dutiesOf sm := by
  dsimp only [Rd]; exact if_pos ⟨rfl, rfl⟩
theorem duties_bar : (Rd (F := F) P G).duties (barCell c) 0 = Finset.univ := by
  rw [duties_zero]; unfold dutiesOf; exact if_pos rfl
theorem duties_dma (q : DmaSem sig) (h : 2 ≤ q.val) : (Rd (F := F) P G).duties ((c : Thread nD τ), .dma q) 0 = {0} := by
  rw [duties_zero]; unfold dutiesOf; exact if_pos h
theorem two_S : 2 ≤ (qS s).val := by rw [qS_val]; omega
theorem two_R : 2 ≤ (qR s).val := by rw [qR_val]; omega
theorem two_C : 2 ≤ (qC s).val := by rw [qC_val]; omega
theorem duties_later (g : GSem nD τ sig) : ∀ r, 1 ≤ r → (Rd (F := F) P G).duties g r = ∅ :=
  fun r hr => if_neg fun h => by omega

theorem amount_bar (d : Fin 3) : (Rd (F := F) P G).amount (barCell c) 0 d = 1 := rfl
theorem amount_send (d : Fin 3) : (Rd (F := F) P G).amount (sendCell c s) 0 d = NM s := by
  show (if (qS s).val < 56 then NM (slotQ (qS s).val) else NO (slotQ (qS s).val)) = _
  rw [qS_val, if_pos (by have := s.isLt; omega), slotQ_S]
theorem amount_recv (d : Fin 3) : (Rd (F := F) P G).amount (recvCell c s) 0 d = NM s := by
  show (if (qR s).val < 56 then NM (slotQ (qR s).val) else NO (slotQ (qR s).val)) = _
  rw [qR_val, if_pos (by have := s.isLt; omega), slotQ_R]
theorem amount_copy (d : Fin 3) : (Rd (F := F) P G).amount (copyCell c s) 0 d = NO s := by
  show (if (qC s).val < 56 then NM (slotQ (qC s).val) else NO (slotQ (qC s).val)) = _
  rw [qC_val, if_neg (by omega), slotQ_C]

theorem expect_bar : (Rd (F := F) P G).expect (barCell c) 0 = 3 := by
  unfold Schedule.expect Schedule.amountOf
  rw [duties_bar]; rfl
theorem expect_dma (q : DmaSem sig) (h : 2 ≤ q.val) (N : ℕ) (hN : (Rd (F := F) P G).amount ((c : Thread nD τ), .dma q) 0 0 = N) :
    (Rd (F := F) P G).expect ((c : Thread nD τ), .dma q) 0 = N := by
  unfold Schedule.expect Schedule.amountOf; rw [duties_dma P G c q h, Finset.sum_singleton, hN]

theorem payload_bar (d : Fin 3) : (Rd (F := F) P G).payload (barCell c) 0 d = barPay c d := rfl
theorem payload_send (d : Fin 3) : (Rd (F := F) P G).payload (sendCell c s) 0 d = sendPay P c s := by
  show (if (qS s).val < 29 then sendPay P c (slotQ (qS s).val) else if (qS s).val < 56 then recvPay P c (slotQ (qS s).val)
    else copyPay P G c (slotQ (qS s).val)) = _
  rw [qS_val, if_pos (by have := s.isLt; omega), slotQ_S]
theorem payload_recv (d : Fin 3) : (Rd (F := F) P G).payload (recvCell c s) 0 d = recvPay P c s := by
  show (if (qR s).val < 29 then sendPay P c (slotQ (qR s).val) else if (qR s).val < 56 then recvPay P c (slotQ (qR s).val)
    else copyPay P G c (slotQ (qR s).val)) = _
  rw [qR_val, if_neg (by omega), if_pos (by have := s.isLt; omega), slotQ_R]
theorem payload_copy (d : Fin 3) : (Rd (F := F) P G).payload (copyCell c s) 0 d = copyPay P G c s := by
  show (if (qC s).val < 29 then sendPay P c (slotQ (qC s).val) else if (qC s).val < 56 then recvPay P c (slotQ (qC s).val)
    else copyPay P G c (slotQ (qC s).val)) = _
  rw [qC_val, if_neg (by omega), if_neg (by omega), slotQ_C]

theorem rest_bar : bigSep ((Rd (F := F) P G).duties (barCell c) 0 \ ∅) (fun d => (Rd (F := F) P G).payload (barCell c) 0 d)
    = iprop(barPay c 0 ∗ barPay c 1 ∗ barPay c 2) := by
  rw [Finset.sdiff_empty, duties_bar, bigSep_univ_eq_bigSepL [0, 1, 2] (by decide) (by decide)]; rfl
theorem rest_dma (q : DmaSem sig) (h : 2 ≤ q.val) (X : sProp 𝕄) (hX : (Rd (F := F) P G).payload ((c : Thread nD τ), .dma q) 0 0 = X) :
    bigSep ((Rd (F := F) P G).duties ((c : Thread nD τ), .dma q) 0 \ ∅) (fun d => (Rd (F := F) P G).payload ((c : Thread nD τ), .dma q) 0 d) = X := by
  rw [Finset.sdiff_empty, duties_dma P G c q h, bigSep_singleton, hX]

end Lookup

/-! ## What is owed, and the levels -/

/-- What `c` owes with the sends of `l` to come. -/
def owedL (c : Dev nD) : List (Fin 27) → CellTallies nD τ sig Unit
  | [] => 0
  | s :: l => owedL c l + tallyAt (recvCell (peer c s) s) () (NM s)

/-- The order the transfers are started in. -/
def sendOrder : List (Fin 27) :=
  [0, 1, 2, 3, 4, 5, 6, 7, 8, 9, 18, 10, 19, 11, 20, 12, 21, 13, 22, 14, 23, 15, 24, 16, 25, 17, 26]

def O₂ (c : Dev nD) : CellTallies nD τ sig Unit := owedL c sendOrder + tallyAt (barCell (nb c 2)) () 1
def O₁ (c : Dev nD) : CellTallies nD τ sig Unit := O₂ c + tallyAt (barCell (nb c 1)) () 1
def O₀ (c : Dev nD) : CellTallies nD τ sig Unit := O₁ c + tallyAt (barCell (nb c 0)) () 1

def L (g : GSem nD τ sig) : Finset Unit := if g.1.2 = .tc then {()} else ∅
/-- A receive cell's level: above the cells its sender waits for before. -/
def lvS (s : Fin 27) : ℕ := if s.val < 9 then 2 else if s.val = 17 ∨ s.val = 26 then 4 else 3
def lvOf : SemLoc sig → ℕ
  | .reg _ => 1
  | .dma q => if 29 ≤ q.val ∧ q.val < 56 then lvS (slotQ q.val) else 0
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (s : Fin 27) : lv (recvCell c s) () = lvS s := by
  show (if 29 ≤ (qR s).val ∧ (qR s).val < 56 then lvS (slotQ (qR s).val) else 0) = _
  rw [qR_val, if_pos ⟨by omega, by have := s.isLt; omega⟩, slotQ_R]
theorem lvS_pos (s : Fin 27) : 1 < lvS s := by unfold lvS; split <;> [decide; (split <;> decide)]

theorem tally_pos {O : CellTallies nD τ sig Unit} {t g : GSem nD τ sig} {k : ℕ} {u : Unit} (h : 0 < (O + tallyAt t () k) g u) :
    g = t ∨ 0 < O g u := by
  rw [Pi.add_apply, Finsupp.add_apply, tallyAt_apply] at h
  by_cases hs : g = t
  · exact .inl hs
  · rw [if_neg (fun h' => hs h'.1), Nat.add_zero] at h
    exact .inr h

theorem owedL_pos {c : Dev nD} {g : GSem nD τ sig} {u : Unit} : ∀ {l : List (Fin 27)}, 0 < owedL c l g u → ∃ s ∈ l, g = recvCell (peer c s) s
  | [], h => absurd h (Nat.lt_irrefl 0)
  | s :: l, h => by
    rcases tally_pos h with hs | h
    · exact ⟨s, List.mem_cons_self, hs⟩
    · obtain ⟨t, ht, e⟩ := owedL_pos h
      exact ⟨t, List.mem_cons_of_mem _ ht, e⟩

theorem O₀_pos {c : Dev nD} {g : GSem nD τ sig} {u : Unit} (h : 0 < O₀ c g u) :
    (∃ d, g = barCell (nb c d)) ∨ ∃ s, g = recvCell (peer c s) s :=
  (tally_pos h).elim (fun h0 => .inl ⟨0, h0⟩) fun h => (tally_pos h).elim (fun h1 => .inl ⟨1, h1⟩) fun h =>
    (tally_pos h).elim (fun h2 => .inl ⟨2, h2⟩) fun h => (owedL_pos h).elim fun s hs => .inr ⟨s, hs.2⟩

/-- A wait is allowed below everything still owed. -/
theorem mayWait_list (c : Dev nD) (sm : SemLoc sig) (l : List (Fin 27)) (h : ∀ s ∈ l, lvOf sm < lvS s) :
    (levAts L lv : sProp 𝕄) ⊢ MayWait (c : Thread nD τ) sm () (owedL c l) :=
  MayOwe.of_cut (L := L) (lev := lv) (lvOf sm) (fun p hp => by rw [Finset.mem_singleton.mp hp, L_tc]; exact Finset.mem_singleton_self _)
    (fun g u hg => by obtain ⟨s, -, rfl⟩ := owedL_pos hg; exact Finset.mem_singleton_self _)
    (fun p hp => by rw [Finset.mem_singleton.mp hp]; exact Nat.le_refl _)
    (fun g u hg => by obtain ⟨s, hs, rfl⟩ := owedL_pos hg; rw [show lv (recvCell (peer c s) s) u = lvS s from lv_recv _ s]; exact h s hs)

/-- The pipeline's own waits, at launch and at the end. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, rfl⟩ | ⟨s, rfl⟩ <;> exact Finset.mem_singleton_self _)
      (fun p hp => by
        rw [Finset.mem_singleton.mp hp]
        show (if 29 ≤ q.val ∧ q.val < 56 then lvS (slotQ q.val) else 0) ≤ 0
        rw [if_neg (by omega)])
      (fun g u hg => by
        rcases O₀_pos hg with ⟨d, rfl⟩ | ⟨s, rfl⟩
        · exact Nat.one_pos
        · rw [show lv (recvCell (peer c s) s) u = lvS s from lv_recv _ s]; have := lvS_pos s; omega)
  · rw [MayWait_zero]; iintro -; iempintro

end Cert.KP

end
-- ==== Proof.Steps.lean ====
/-
# What one step of the body does

What a device holds between two steps is a list of pieces (`At`). For each kind of step one lemma: the pieces it
takes, the pieces it gives back, for any slot.
-/
module

public import proofs.«01_k».proof.Proof.Sched

@[expose] public section

noncomputable section

namespace Cert.KP

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (P : Dev nD → Vec F S1x2048x1024 .f32) (G : Dev nD → Vec F S1024 .f32)

/-! ## The invariants -/

/-- All the cells of a device: its barrier's, its 81 transfer semaphores'. -/
def csem (k : Fin 82) : SemLoc sig := if h : k.val = 0 then .reg barS else .dma ⟨k.val + 1, by have := k.isLt; show _ < 83; omega⟩
def kcell (ck : Dev nD × Fin 82) : GSem nD τ sig := ((ck.1 : Thread nD τ), csem ck.2)

variable (K : Dev nD × Fin 82 → ℕ)

def Inv : sProp 𝕄 := bigSep Finset.univ fun ck : Dev nD × Fin 82 => iprop(cellInv ER (Rd P G) (K ck) (kcell ck) ∗ reached ER (kcell ck) 0)

instance Inv_persistent : BI.Persistent (Inv (F := F) P G K) := by unfold Inv; infer_instance

/-- The number of a transfer semaphore among the cells. -/
def iq (q : DmaSem sig) (h : 2 ≤ q.val) : Fin 82 := ⟨q.val - 1, by have : q.val < 83 := q.isLt; omega⟩
theorem csem_iq (q : DmaSem sig) (h : 2 ≤ q.val) : csem (iq q h) = .dma q := by
  unfold csem iq
  rw [dif_neg (by dsimp only; omega)]
  exact congrArg SemLoc.dma (Fin.ext (by dsimp only; omega))

theorem Inv_bar (c : Dev nD) : Inv (F := F) P G K ⊢ iprop(cellInv ER (Rd P G) (K (c, 0)) (barCell c) ∗ reached ER (barCell c) 0) :=
  bigSep_elim (Finset.mem_univ ((c, 0) : Dev nD × Fin 82))
theorem Inv_dma (c : Dev nD) (q : DmaSem sig) (h : 2 ≤ q.val) :
    Inv (F := F) P G K ⊢ iprop(cellInv ER (Rd P G) (K (c, iq q h)) ((c : Thread nD τ), .dma q) ∗ reached ER ((c : Thread nD τ), .dma q) 0) := by
  have e : Inv (F := F) P G K ⊢ iprop(cellInv ER (Rd P G) (K (c, iq q h)) (kcell (c, iq q h)) ∗ reached ER (kcell (c, iq q h)) 0) :=
    bigSep_elim (Finset.mem_univ ((c, iq q h) : Dev nD × Fin 82))
  rw [show kcell (c, iq q h) = ((c : Thread nD τ), SemLoc.dma q) from congrArg _ (csem_iq q h)] at e
  exact e

/-! ## The pieces -/

inductive At where
  | inp
  | stg (s : Fin 27)
  | tok (s : Fin 27)
  | pos (s : Fin 27)
  | semR (s : Fin 27)
  | cm (s : Fin 27)
  | half (s : Fin 27)
  | fwd (s : Fin 27)
  | left (s : Fin 27)
  | sPos (s : Fin 27)
  | fly (s : Fin 27)
  | semS (s : Fin 27)
  | ost (s : Fin 27)
  | cPos (s : Fin 27)
  | cFly (s : Fin 27)
  | done (s : Fin 27)
  deriving DecidableEq

/-- What is left over of a thrice sixteen rows, all at the second share, when slot 17's, slot 26's rows are lent. -/
def leftRow (c : Dev nD) (s : Fin 27) : ℕ := if s.val = 17 then dRow c 23 + 16 else dRow c 14

/-- The pieces device `c` may hold. -/
def at_ (c : Dev nD) : At → sProp 𝕄
  | .inp => iprop((((c : Thread nD τ).loc cc0_stg0_0) ↦{fullShare} P c) ∗ (((c : Thread nD τ).loc cc0_stg1_0) ↦{fullShare} G c))
  | .stg s => stg (F := F) c s
  | .tok s => iprop(landing (F := F) c s ∗ dutyTok ER (sendCell c s) 0 0 ∗ dutyTok ER (recvCell (peer c s) s) 0 0)
  | .pos s => iprop(cred (tallyAt (recvCell c s) () (NM s)) ∗ atPos ER (recvCell c s) 0 ∅ 0)
  | .semR s => semVal (recvCell c s) 0
  | .cm s => cPt c (dRow c s) (dLen s) (qOwn s) (commV P c)
  | .half s => cPt c (dRow c s) (dLen s) fullShare.right (commV P c)
  | .fwd s => fwd P c s
  | .left s => cPt c (leftRow c s) 16 fullShare.right (commV P c)
  | .sPos s => atPos ER (sendCell c s) 0 ∅ 0
  | .fly s => cred (tallyAt (sendCell c s) () (NM s))
  | .semS s => semVal (sendCell c s) 0
  | .ost s => iprop((∃ f, oPt (F := F) c (dRow c s) (dLen s) f) ∗ (∃ f, rPt (F := F) c (dRow c s) (dLen s) f) ∗ dutyTok ER (copyCell c s) 0 0)
  | .cPos s => atPos ER (copyCell c s) 0 ∅ 0
  | .cFly s => cred (tallyAt (copyCell c s) () (NO s))
  | .done s => iprop(rPt c (dRow c s) (dLen s) (outV P G c) ∗ (∃ f, oPt (F := F) c (dRow c s) (dLen s) f) ∗ semVal (copyCell c s) 0)

/-- What `c` owes with the sends of `l` to come, whatever it has waited for. -/
def owe (c : Dev nD) (l : List (Fin 27)) : sProp 𝕄 := iprop(∃ W, owes (c : Thread nD τ) (owedL c l) W)

/-- What a program proves. -/
abbrev wpP (c : Dev nD) (p : Prog (PT (F := F)) PUnit) (Q : PUnit → sProp 𝕄) : sProp 𝕄 :=
  wp frame (wpE (defs₀ (F := F)) 𝒱₀ (c : Thread nD τ) none) Set.univ p Q

/-! ## Waiting -/

/-- A wait for a transfer semaphore: its payload, and its counter back. -/
theorem wp_wait (c : Dev nD) {w : PT (F := F) PUnit} (q : DmaSem sig) (hq : 2 ≤ q.val) (N : ℕ) (X : sProp 𝕄)
    (hw : ∀ R : PUnit → sProp 𝕄, wpE (defs₀ (F := F)) 𝒱₀ (c : Thread nD τ) none Set.univ w R = waitSpec (c : Thread nD τ) Set.univ (.dma q) N R)
    (hN : (Rd (F := F) P G).amount ((c : Thread nD τ), .dma q) 0 0 = N)
    (hX : (Rd (F := F) P G).payload ((c : Thread nD τ), .dma q) 0 0 = X)
    (l : List (Fin 27)) (hl : ∀ s ∈ l, lvOf (.dma q) < lvS s) {k : PUnit → Prog (PT (F := F)) PUnit} {Q : PUnit → sProp 𝕄} :
    iprop(Inv P G K ∗ levAts L lv ∗ owe c l ∗ cred (tallyAt ((c : Thread nD τ), .dma q) () N) ∗ atPos ER ((c : Thread nD τ), .dma q) 0 ∅ 0)
      ⊢ iprop(((owe c l ∗ semVal ((c : Thread nD τ), .dma q) 0 ∗ X) -∗ wpP c (k ⟨⟩) Q) -∗ wpP c (.op w k) Q) := by
  unfold owe
  iintro ⟨#HI, #Hlev, ⟨%W, HO⟩, Hc, Hat⟩ Hk
  ihave Hq := (Inv_dma P G K c q hq) $$ HI
  icases Hq with ⟨#Hq, -⟩
  iapply (Rounds.wp_wait_rest_token 𝒱₀ ER (Rd P G) (c : Thread nD τ) none (κ := K (c, iq q hq)) hw (Set.mem_univ _) ()
      (O := owedL c l) (W := W) (R := 0) (m := 0) (T := ∅) (by rw [Nat.zero_add, expect_dma P G c q hq N hN])) $$ [Hc HO Hat]
  · isplitr; · iexact Hq
    isplitl [Hc]; · iexact Hc
    isplitl [HO]; · iexact HO
    isplitr; · iapply (mayWait_list c (.dma q) l hl); iexact Hlev
    iexact Hat
  iintro ⟨HO, Hat, -, Hpay⟩
  ihave Hp := (Entails.of_eq (rest_dma P G c q hq X hX)) $$ Hpay
  imod (Rounds.cell_close ER (Rd P G) (Set.mem_univ (K (c, iq q hq))) (fun h => h) (R := 0 + 1) (duties_later P G ((c : Thread nD τ), .dma q))) $$ [Hat] with Hz
  · isplitr; · iexact Hq
    iexact Hat
  iapply Hk
  isplitl [HO]; · iexists _; iexact HO
  isplitl [Hz] <;> iassumption

/-! ## Rows, split and joined -/

section Rows
variable (c : Dev nD)

theorem cPt_share (a n : ℕ) (q : PosShare TreeShare) (f : Buf (Elt F) (cLoc c)) :
    cPt c a n q f ⊣⊢ iprop(cPt c a n q.left f ∗ cPt c a n q.right f) := pointsTo_share (PosShare.mem_left_op_right q)

theorem rws_union {N a n m : ℕ} : rws N a n ∪ rws N (a + n) m = rws N a (n + m) := by
  ext i; rw [Finset.mem_union, mem_rws, mem_rws, mem_rws]; omega

theorem cPt_join (a n m : ℕ) (q : PosShare TreeShare) (f : Buf (Elt F) (cLoc c)) :
    iprop(cPt c a n q f ∗ cPt c (a + n) m q f) ⊣⊢ cPt c a (n + m) q f := by
  unfold cPt
  have h : ((cLoc c) ↦[rws 1024 a n ∪ rws 1024 (a + n) m]{q} f : sProp 𝕄) ⊣⊢ iprop(((cLoc c) ↦[rws 1024 a n]{q} f) ∗ (cLoc c) ↦[rws 1024 (a + n) m]{q} f) :=
    pointsTo_union (rws_disjoint (.inl (Nat.le_refl _)))
  rw [rws_union] at h
  exact ⟨h.2, h.1⟩

end Rows

/-- What arriving rows are divided into. -/
def recvPost (s : Fin 27) : List At :=
  if s.val < 8 then [.cm s, .fwd (s + 9), .fwd (s + 18)] else if split2 s then [.cm s, .half s] else [.cm s]

theorem fwd_row : ∀ (c : Dev nD) (s : Fin 27), s.val < 8 →
    dRow (peer c (s + 9)) (s + 9) = dRow c s ∧ dLen (s + 9) = dLen s ∧ dRow (peer c (s + 18)) (s + 18) = dRow c s ∧ dLen (s + 18) = dLen s := by
  decide +kernel
theorem fwd_val : ∀ s : Fin 27, s.val < 8 → (s + 9).val = s.val + 9 ∧ (s + 18).val = s.val + 18 := by decide +kernel

theorem recv_split (c : Dev nD) (s : Fin 27) : recvPay P c s ⊣⊢ sepL (at_ P G c) (recvPost s) := by
  unfold recvPay recvPost
  by_cases h8 : s.val < 8
  · obtain ⟨e1, e2, e3, e4⟩ := fwd_row c s h8
    obtain ⟨v1, v2⟩ := fwd_val s h8
    rw [if_pos h8]
    simp only [sepL, at_, fwd]
    rw [e1, e2, e3, e4, show qOwn s = fullShare.left from if_pos h8,
      show qSnd (s + 9) = fullShare.right.left from if_pos (by omega),
      show qSnd (s + 18) = fullShare.right.right by unfold qSnd; rw [if_neg (by omega), if_neg (by omega), if_pos (by omega)]]
    constructor
    · iintro H
      ihave H := (cPt_share c _ _ _ _).1 $$ H
      icases H with ⟨H1, H⟩
      ihave H := (cPt_share c _ _ _ _).1 $$ H
      icases H with ⟨H2, H3⟩
      isplitl [H1]; · iexact H1
      isplitl [H2]; · iexact H2
      isplitl [H3]; · iexact H3
      iempintro
    · iintro ⟨H1, H2, H3, -⟩
      iapply (cPt_share c _ _ _ _).2
      isplitl [H1]; · iexact H1
      iapply (cPt_share c _ _ _ _).2
      isplitl [H2] <;> iassumption
  · rw [if_neg h8]
    by_cases h2 : split2 s = true
    · rw [if_pos h2]
      simp only [sepL, at_]
      rw [show qOwn s = fullShare.left by unfold qOwn; rw [if_neg h8, if_pos h2]]
      constructor
      · iintro H
        ihave H := (cPt_share c _ _ _ _).1 $$ H
        icases H with ⟨H1, H2⟩
        isplitl [H1]; · iexact H1
        isplitl [H2]; · iexact H2
        iempintro
      · iintro ⟨H1, H2, -⟩
        iapply (cPt_share c _ _ _ _).2
        isplitl [H1] <;> iassumption
    · rw [if_neg h2]
      simp only [sepL, at_]
      rw [show qOwn s = fullShare by unfold qOwn; rw [if_neg h8, if_neg h2]]
      constructor
      · iintro H; isplitl [H]; · iexact H
        iempintro
      · iintro ⟨H, -⟩; iexact H

/-- The rows lent for slot 17 and for slot 26, out of three slots'. -/
theorem rows17 : ∀ c : Dev nD, dRow c 22 = dRow c 21 + 32 ∧ dRow c 23 = dRow c 21 + 64 ∧ dRow (peer c 17) 17 = dRow c 21 := by decide +kernel
theorem rows26 : ∀ c : Dev nD, dRow c 15 = dRow c 14 + 32 ∧ dRow c 16 = dRow c 14 + 64 ∧ dRow (peer c 26) 26 = dRow c 14 + 16 := by decide +kernel

theorem lend17 (c : Dev nD) : sepL (at_ P G c) [.half 21, .half 22, .half 23] ⊣⊢ sepL (at_ P G c) [.fwd 17, .left 17] := by
  obtain ⟨e1, e2, e3⟩ := rows17 c
  simp only [sepL, at_, fwd, leftRow]
  rw [if_pos (by decide), e1, e2, e3, show dLen 21 = 32 from rfl, show dLen 22 = 32 from rfl, show dLen 23 = 16 + 16 from rfl,
    show dLen 17 = 32 + (32 + 16) from rfl, show qSnd 17 = fullShare.right from rfl]
  constructor
  · iintro ⟨H1, H2, H3, -⟩
    ihave H3 := (cPt_join c _ _ _ _ _).2 $$ H3
    icases H3 with ⟨H3, H4⟩
    isplitl [H1 H2 H3]
    · iapply (cPt_join c _ _ _ _ _).1
      isplitl [H1]; · iexact H1
      iapply (cPt_join c _ _ _ _ _).1
      isplitl [H2] <;> iassumption
    isplitl [H4]; · iexact H4
    iempintro
  · iintro ⟨H, H4, -⟩
    ihave H := (cPt_join c _ _ _ _ _).2 $$ H
    icases H with ⟨H1, H⟩
    ihave H := (cPt_join c _ _ _ _ _).2 $$ H
    icases H with ⟨H2, H3⟩
    isplitl [H1]; · iexact H1
    isplitl [H2]; · iexact H2
    isplitl [H3 H4]
    · iapply (cPt_join c _ _ _ _ _).1
      isplitl [H3] <;> iassumption
    iempintro

theorem lend26 (c : Dev nD) : sepL (at_ P G c) [.half 14, .half 15, .half 16] ⊣⊢ sepL (at_ P G c) [.fwd 26, .left 26] := by
  obtain ⟨e1, e2, e3⟩ := rows26 c
  simp only [sepL, at_, fwd, leftRow]
  rw [if_neg (by decide), e1, e2, e3, show dLen 14 = 16 + 16 from rfl, show dLen 15 = 32 from rfl, show dLen 16 = 32 from rfl,
    show dLen 26 = 16 + (32 + 32) from rfl, show qSnd 26 = fullShare.right from rfl]
  constructor
  · iintro ⟨H1, H2, H3, -⟩
    ihave H1 := (cPt_join c _ _ _ _ _).2 $$ H1
    icases H1 with ⟨H0, H1⟩
    isplitl [H1 H2 H3]
    · iapply (cPt_join c _ _ _ _ _).1
      isplitl [H1]; · iexact H1
      iapply (cPt_join c _ _ _ _ _).1
      isplitl [H2] <;> iassumption
    isplitl [H0]; · iexact H0
    iempintro
  · iintro ⟨H, H0, -⟩
    ihave H := (cPt_join c _ _ _ _ _).2 $$ H
    icases H with ⟨H1, H⟩
    ihave H := (cPt_join c _ _ _ _ _).2 $$ H
    icases H with ⟨H2, H3⟩
    isplitl [H0 H1]
    · iapply (cPt_join c _ _ _ _ _).1
      isplitl [H0] <;> iassumption
    isplitl [H2]; · iexact H2
    isplitl [H3]; · iexact H3
    iempintro

end Cert.KP

end
-- ==== Proof.Rules.lean ====
/-
# The six kinds of step

For each kind of step: from the pieces it takes, the program that starts with it runs to the pieces it gives.
-/
module

public import proofs.«01_k».proof.Proof.Steps

@[expose] public section

noncomputable section

namespace Cert.KP

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → Vec F S1x2048x1024 .f32) (G : Dev nD → Vec F S1024 .f32) (K : Dev nD × Fin 82 → ℕ)

/-! ## The views' elements -/

section Views
variable {n : ℕ} {o : Fin 2 → ℕ} {a : ℕ}

theorem comm_set (h : ∀ a, o a + (Sn n).size a ≤ S1024x1024.size a) (ho : o = ![a, 0]) : (commAt o h).view.set = rws 1024 a n :=
  (View.set_slice_whole cc0_scratch0 (rectOf 1024 n o h)).trans (rect_set h ho)
theorem stage_set (h : ∀ a, o a + (Sn n).size a ≤ S352x1024.size a) (ho : o = ![a, 0]) : (stageAt o h).view.set = rws 352 a n :=
  (View.set_slice_whole cc0_scratch1 (rectOf 352 n o h)).trans (rect_set h ho)
theorem ost_set (h : ∀ a, o a + (Sn n).size a ≤ S1024x1024.size a) (ho : o = ![a, 0]) : (ostAt o h).view.set = rws 1024 a n :=
  (View.set_slice_whole cc0_scratch2 (rectOf 1024 n o h)).trans (rect_set h ho)
theorem out_set (h : ∀ a, o a + (Sn n).size a ≤ S1024x1024.size a) (ho : o = ![a, 0]) : (outAt o h).view.set = rws 1024 a n :=
  (View.set_slice_whole main_v1 (rectOf 1024 n o h)).trans (rect_set h ho)

theorem comm_pt (c : Dev nD) (h : ∀ a, o a + (Sn n).size a ≤ S1024x1024.size a) (ho : o = ![a, 0]) (q : PosShare TreeShare) (f : Buf (Elt F) (cLoc c)) :
    (((commAt o h).view.loc (c : Thread nD τ)) ↦[(commAt o h).view.set]{q} f : sProp 𝕄) = cPt c a n q f := by
  unfold cPt; rw [comm_set h ho]
theorem stage_pt (c : Dev nD) (h : ∀ a, o a + (Sn n).size a ≤ S352x1024.size a) (ho : o = ![a, 0]) (f : Buf (Elt F) (sLoc c)) :
    (((stageAt o h).view.loc (c : Thread nD τ)) ↦[(stageAt o h).view.set]{fullShare} f : sProp 𝕄) = sPt c a n f := by
  unfold sPt; rw [stage_set h ho]
theorem ost_pt (c : Dev nD) (h : ∀ a, o a + (Sn n).size a ≤ S1024x1024.size a) (ho : o = ![a, 0]) (f : Buf (Elt F) (oLoc c)) :
    (((ostAt o h).view.loc (c : Thread nD τ)) ↦[(ostAt o h).view.set]{fullShare} f : sProp 𝕄) = oPt c a n f := by
  unfold oPt; rw [ost_set h ho]
theorem out_pt (c : Dev nD) (h : ∀ a, o a + (Sn n).size a ≤ S1024x1024.size a) (ho : o = ![a, 0]) (f : Buf (Elt F) (rLoc c)) :
    (((outAt o h).view.loc (c : Thread nD τ)) ↦[(outAt o h).view.set]{fullShare} f : sProp 𝕄) = rPt c a n f := by
  unfold rPt; rw [out_set h ho]

theorem comm_emb (h : ∀ a, o a + (Sn n).size a ≤ S1024x1024.size a) (ho : o = ![a, 0]) (hN : a + n ≤ 1024) (k : (Sn n).Idx) :
    (commAt o h).view.emb k = rowIx a hN k := rect_emb (N := 1024) h ho hN k
theorem out_emb (h : ∀ a, o a + (Sn n).size a ≤ S1024x1024.size a) (ho : o = ![a, 0]) (hN : a + n ≤ 1024) (k : (Sn n).Idx) :
    (outAt o h).view.emb k = rowIx a hN k := rect_emb (N := 1024) h ho hN k

/-- Rows written whole hold what was written. -/
theorem comm_lands (c : Dev nD) (h : ∀ a, o a + (Sn n).size a ≤ S1024x1024.size a) (ho : o = ![a, 0]) (hN : a + n ≤ 1024)
    (fd V : Buf (Elt F) (cLoc c)) (w : Vec F (Sn n) .bf16) (hw : ∀ k, w k = V (rowIx a hN k)) :
    (((commAt o h).view.loc (c : Thread nD τ)) ↦[(commAt o h).view.set]{fullShare} ((commAt o h).view.write (Elt F) fd w Finset.univ) : sProp 𝕄)
      = cPt c a n fullShare V := by
  rw [← comm_pt c h ho]
  refine pointsTo_congr fun i hi => ?_
  obtain ⟨k, -, rfl⟩ := Finset.mem_map.mp hi
  rw [View.write_emb_of_mem _ _ (Finset.mem_univ k), comm_emb h ho hN]
  exact hw k
theorem out_lands (c : Dev nD) (h : ∀ a, o a + (Sn n).size a ≤ S1024x1024.size a) (ho : o = ![a, 0]) (hN : a + n ≤ 1024)
    (fd V : Buf (Elt F) (rLoc c)) (w : Vec F (Sn n) .f32) (hw : ∀ k, w k = V (rowIx a hN k)) :
    (((outAt o h).view.loc (c : Thread nD τ)) ↦[(outAt o h).view.set]{fullShare} ((outAt o h).view.write (Elt F) fd w Finset.univ) : sProp 𝕄)
      = rPt c a n V := by
  rw [← out_pt c h ho]
  refine pointsTo_congr fun i hi => ?_
  obtain ⟨k, -, rfl⟩ := Finset.mem_map.mp hi
  rw [View.write_emb_of_mem _ _ (Finset.mem_univ k), out_emb h ho hN]
  exact hw k

end Views

/-! ## The pieces a step takes and gives -/

def St.pre : St → List At
  | .stage s _ => [.inp, .stg s, .tok s]
  | .recv s => [.pos s]
  | .send s => if s = 17 then [.half 21, .half 22, .half 23, .tok s] else if s = 26 then [.half 14, .half 15, .half 16, .tok s] else [.fwd s, .tok s]
  | .comp s => [.inp, .cm s, .ost s]
  | .sentX s _ => [.fly s, .sPos s]
  | .sent s => [.fly s, .sPos s]
  | .copied s => [.cFly s, .cPos s]

def St.post : St → List At
  | .stage s _ => [.inp, .fly s]
  | .recv s => .semR s :: recvPost s
  | .send s => if s = 17 then [.fly s, .left 17] else if s = 26 then [.fly s, .left 26] else [.fly s]
  | .comp s => [.inp, .cm s, .cFly s]
  | .sentX s _ => [.semS s, .stg s]
  | .sent s => [.semS s, .fwd s]
  | .copied s => [.done s]

/-- The sends to come after a step that may be done with those of `l` to come. -/
def St.due (l : List (Fin 27)) : St → Option (List (Fin 27))
  | .stage s _ => if l.head? = some s then some l.tail else none
  | .recv s => if ∀ t ∈ l, lvS s < lvS t then some l else none
  | .send s => if l.head? = some s ∧ 9 ≤ s.val then some l.tail else none
  | .comp _ => some l
  | .sentX _ _ => if l = [] then some [] else none
  | .sent s => if l = [] ∧ 9 ≤ s.val then some [] else none
  | .copied _ => if l = [] then some [] else none

theorem head_cons {l : List (Fin 27)} {s : Fin 27} (h : l.head? = some s) : l = s :: l.tail := by
  cases l with
  | nil => cases h
  | cons a l => cases h; rfl

section Rules
theorem amt (s : Fin 27) (o : Fin 2 → ℕ) (h : ∀ a, o a + (Sn (dLen s)).size a ≤ S1024x1024.size a) (q : DmaSem sig) :
    (commAt o h).view.amount (.dma q) = NM s := rfl
theorem rts (c c' : Dev nD) : τ.routes (c : Thread nD τ) (Dev.tc c' : Thread nD τ) = true := by routes

/-- A transfer to a neighbour: its source read at any share, its destination the neighbour's rows of the slot. -/
theorem wp_xfer (c : Dev nD) (s : Fin 27) (l : List (Fin 27)) (kk : Prog (PT (F := F)) PUnit) (Q : PUnit → sProp 𝕄) {src : Memref sig .tc .vmem (Sn (dLen s)) .bf16} {hsrc : src.view.WordExact}
    {hdst : (commAt (sendOff c s) (send_inb c s)).view.WordExact} {hsc : (commAt (sendOff c s) (send_inb c s)).view.ref.isScScratch = false}
    {hsem : DmaTarget.Typed .vmem (.dma (qR s)) (.remote (Dev.tc (peer c s) : Thread nD τ) (commAt (sendOff c s) (send_inb c s)) (.dma (qS s)) hsc)}
    (q : PosShare TreeShare) (fs : Buf (Elt F) (src.view.loc (c : Thread nD τ)))
    (hval : ∀ k, src.view.read (Elt F) fs k = commV P (peer c s) (rowIx (dRow (peer c s) s) (dRow_le _ s) k))
    (hpay : ((src.view.loc (c : Thread nD τ)) ↦[src.view.set]{q} fs : sProp 𝕄) ⊢ sendPay P c s) :
    iprop(Inv P G K ∗ owe c (s :: l) ∗ ((src.view.loc (c : Thread nD τ)) ↦[src.view.set]{q} fs) ∗ at_ P G c (.tok s))
      ⊢ iprop(((owe c l ∗ at_ P G c (.fly s)) -∗ wpP c kk Q)
        -∗ wpP c (.op (.enqueueDma src (.remote (Dev.tc (peer c s) : Thread nD τ) (commAt (sendOff c s) (send_inb c s)) (.dma (qS s)) hsc)
            (.dma (qR s)) hsrc hdst hsem) fun _ => kk) Q) := by
  unfold owe at_ landing
  iintro ⟨#HI, ⟨%W, HO⟩, Hs, ⟨%fd, Hd⟩, HtS, HtR⟩ Hk
  ihave HqS := (Inv_dma P G K c (qS s) (two_S s)) $$ HI
  icases HqS with ⟨#HqS, #HrS⟩
  ihave HqR := (Inv_dma P G K (peer c s) (qR s) (two_R s)) $$ HI
  icases HqR with ⟨#HqR, #HrR⟩
  ihave Hd := (Entails.of_eq (comm_pt (peer c s) (send_inb c s) (sendOff_eq c s) fullShare fd).symm) $$ Hd
  have hd₁ : (0 : Fin 3) ∈ (Rd P G).duties (sendCell c s) 0 := by rw [duties_dma P G c _ (two_S s)]; exact Finset.mem_singleton_self _
  have hd₂ : (0 : Fin 3) ∈ (Rd P G).duties (recvCell (peer c s) s) 0 := by
    rw [duties_dma P G (peer c s) _ (two_R s)]; exact Finset.mem_singleton_self _
  have h₁ : ((src.view.loc (c : Thread nD τ)) ↦[src.view.set]{q} fs : sProp 𝕄) ⊢ (Rd P G).payload (sendCell c s) 0 0 := by
    rw [payload_send]; exact hpay
  have h₂ : (((commAt (sendOff c s) (send_inb c s)).view.loc (Dev.tc (peer c s) : Thread nD τ)) ↦[(commAt (sendOff c s) (send_inb c s)).view.set]{fullShare}
      ((commAt (sendOff c s) (send_inb c s)).view.write (Elt F) fd (src.view.read (Elt F) fs) Finset.univ) : sProp 𝕄)
      ⊢ (Rd P G).payload (recvCell (peer c s) s) 0 0 := by
    rw [payload_recv]; unfold recvPay
    rw [comm_lands (peer c s) (send_inb c s) (sendOff_eq c s) (dRow_le _ s) fd (commV P (peer c s)) _ hval]
  have hO : owedL c (s :: l) = owedL c l + tallyAt (recvCell (peer c s) s) () (NM s) := rfl
  iapply (Rounds.wp_send_pointsTo (c' := (Dev.tc (peer c s) : Thread nD τ)) (src := src) (dst := commAt (sendOff c s) (send_inb c s)) (sS := .dma (qS s)) (sem := .dma (qR s))
      (q := q) (fs := fs) 𝒱₀ ER (Rd P G) (c : Thread nD τ) none (κ₁ := K (c, iq (qS s) (two_S s))) (κ₂ := K (peer c s, iq (qR s) (two_R s)))
      (r₁ := 0) (r₂ := 0) (d₁ := 0) (d₂ := 0) (fd := fd) hd₁ hd₂ () () (NM s) (amt s _ _ _) (amount_send P G c s 0) (amount_recv P G (peer c s) s 0)
      (owedL c l) hO (W := W) h₁ h₂ (hr := rts c (peer c s)))
    $$ [Hs Hd HO HtS HtR]
  · isplitr; · iexact HqS
    isplitr; · iexact HqR
    isplitl [Hs]; · iexact Hs
    isplitl [Hd]; · iexact Hd
    isplitl [HO]; · iexact HO
    isplitl [HtS]; · iexact HtS
    isplitr; · iexact HrS
    isplitl [HtR]; · iexact HtR
    iexact HrR
  iintro ⟨Hc, HO⟩
  iapply Hk
  isplitl [HO]; · iexists W; iexact HO
  iexact Hc

/-! ## The loads' values -/

theorem emb3 {n : ℕ} {o : Fin 3 → ℕ} (h : ∀ a, o a + (S1n n).size a ≤ S1x2048x1024.size a) (k : (S1n n).Idx) (i : S1x2048x1024.Idx)
    {b : ℕ} (ho : o = ![0, b, 0]) (h1 : (i 1).val = b + (k 1).val) (h2 : (i 2).val = (k 2).val) :
    (Rect.unit (s := S1x2048x1024) o (S1n n).size h).emb k = i := by
  subst ho
  funext a
  refine Fin.ext ?_
  rw [Rect.emb_apply]
  match a with
  | 0 =>
    have hk : (k 0).val < 1 := (k 0).isLt
    have hi : (i 0).val < 1 := (i 0).isLt
    show 0 + 1 * (k 0).val = (i 0).val
    omega
  | 1 => show b + 1 * (k 1).val = (i 1).val; omega
  | 2 => show 0 + 1 * (k 2).val = (i 2).val; omega

theorem read_snd (c : Dev nD) (s : Fin 27) (hs : s.val < 9) :
    ((Memref.whole cc0_stg0_0).access (Rect.unit (s := S1x2048x1024) (pSendOff c s) (S1n (dLen s)).size (pSend_inb c s hs))).read (Elt F) (P c)
      = pSnd P c s := by
  funext k
  refine congrArg (P c) (emb3 _ k _ (pSendOff_eq c s hs) ?_ rfl)
  exact (Nat.add_assoc _ _ _).symm
theorem read_own (c : Dev nD) (s : Fin 27) :
    ((Memref.whole cc0_stg0_0).access (Rect.unit (s := S1x2048x1024) (pOff c s) (S1n (dLen s)).size (p_inb c s))).read (Elt F) (P c)
      = pCh P c s := by
  funext k
  refine congrArg (P c) (emb3 _ k _ (pOff_eq c s) ?_ rfl)
  exact (Nat.add_assoc _ _ _).symm
theorem read_comm (c : Dev nD) (s : Fin 27) :
    ((Memref.whole cc0_scratch0).access (Rect.unit (s := S1024x1024) (loadOff c s) (Sn (dLen s)).size (load_inb c s))).read (Elt F) (commV P c)
      = mCh P c s := by
  funext k
  exact congrArg (commV P c) (rect_emb (N := 1024) (load_inb c s) (loadOff_eq c s) (dRow_le c s) k)
theorem read_gamma (c : Dev nD) :
    ((Memref.whole cc0_stg1_0).access (Rect.unit (s := S1024) ![0] S1024.size inb_S1024_S1024_0)).read (Elt F) (G c) = G c := by
  funext k
  refine congrArg (G c) (funext fun a => Fin.ext ?_)
  match a with
  | 0 => show 0 + 1 * (k 0).val = (k 0).val; omega

/-! ## The steps' rules -/

/-- What a step proves. -/
def Rule (c : Dev nD) (st : St) : Prop := ∀ (l l' : List (Fin 27)) (k : Prog (PT (F := F)) PUnit) (Q : PUnit → sProp 𝕄), st.due l = some l' →
  iprop(Inv P G K ∗ levAts L lv ∗ owe c l ∗ sepL (at_ P G c) st.pre)
    ⊢ iprop(((owe c l' ∗ sepL (at_ P G c) st.post) -∗ wpP c k Q) -∗ wpP c (st.prog c k) Q)

theorem if_inv {A : Type} {p : Prop} [Decidable p] {a b : A} (h : (if p then some a else none) = some b) : p ∧ a = b := by
  split at h
  · exact ⟨‹_›, Option.some.inj h⟩
  · cases h

/-- A step that waits for a transfer. -/
theorem rule_wait (c : Dev nD) (st : St) (w : PT (F := F) PUnit) (q : DmaSem sig) (hq : 2 ≤ q.val) (N : ℕ) (X : sProp 𝕄)
    (hw : ∀ R : PUnit → sProp 𝕄, wpE (defs₀ (F := F)) 𝒱₀ (c : Thread nD τ) none Set.univ w R = waitSpec (c : Thread nD τ) Set.univ (.dma q) N R)
    (hst : ∀ k, st.prog c k = .op w fun _ => k)
    (hN : (Rd (F := F) P G).amount ((c : Thread nD τ), .dma q) 0 0 = N) (hX : (Rd (F := F) P G).payload ((c : Thread nD τ), .dma q) 0 0 = X)
    (hdue : ∀ l l', st.due l = some l' → l = l' ∧ ∀ s ∈ l, lvOf (.dma q) < lvS s)
    (hpre : sepL (at_ P G c) st.pre ⊢ iprop(cred (tallyAt ((c : Thread nD τ), .dma q) () N) ∗ atPos ER ((c : Thread nD τ), .dma q) 0 ∅ 0))
    (hpost : iprop(semVal ((c : Thread nD τ), .dma q) 0 ∗ X) ⊢ sepL (at_ P G c) st.post) : Rule P G K c st := by
  intro l l' k Q hd
  obtain ⟨rfl, hl⟩ := hdue l l' hd
  rw [hst]
  iintro ⟨#HI, #Hlev, HO, HA⟩ Hk
  ihave HA := hpre $$ HA
  icases HA with ⟨Hc, Hat⟩
  iapply (wp_wait P G K c q hq N X hw hN hX l hl (k := fun _ => k)) $$ [HO Hc Hat]
  · isplitr; · iexact HI
    isplitr; · iexact Hlev
    isplitl [HO]; · iexact HO
    isplitl [Hc] <;> iassumption
  iintro ⟨HO, Hp⟩
  iapply Hk
  isplitl [HO]; · iexact HO
  iapply hpost
  iexact Hp

theorem nil_inv {p : Prop} [Decidable p] {l l' : List (Fin 27)} (h : (if p then some [] else none) = some l') (hp : p → l = [])
    (g : Fin 27 → Prop) : l = l' ∧ ∀ s ∈ l, g s := by
  obtain ⟨h', rfl⟩ := if_inv h
  obtain rfl := hp h'
  exact ⟨rfl, fun s hs => absurd hs List.not_mem_nil⟩

theorem rule_recv (c : Dev nD) (s : Fin 27) : Rule P G K c (.recv s) := by
  refine rule_wait P G K c (.recv s) (.waitDma2 (semAt cc0_scratch4 s.val s.isLt) (commAt (recvOff c s) (recv_inb c s)) (commAt (recvOff c s) (recv_inb c s))
      (comm_words _ (recv_even c s) (dLen_even s)) (comm_words _ (recv_even c s) (dLen_even s))) (qR s) (two_R s) (NM s) (recvPay P c s) (wpE_waitDma2_eq 𝒱₀ (c : Thread nD τ) none Set.univ) (fun _ => rfl)
    (amount_recv P G c s 0) (payload_recv P G c s 0) (fun l l' h => ?_) ?_ ?_
  · obtain ⟨hl, rfl⟩ := if_inv (p := ∀ t ∈ l, lvS s < lvS t) h
    have e : lvOf (SemLoc.dma (qR s)) = lvS s := lv_recv c s
    exact ⟨rfl, by rw [e]; exact hl⟩
  · simp only [St.pre, sepL, at_]; iintro ⟨H, -⟩; iexact H
  · simp only [St.post, sepL]
    iintro ⟨Hz, Hp⟩
    isplitl [Hz]; · simp only [at_]; iexact Hz
    iapply (recv_split P G c s).1
    iexact Hp

theorem rule_sentX (c : Dev nD) (s : Fin 27) (h9 : s.val < 9) : Rule P G K c (.sentX s h9) := by
  refine rule_wait P G K c (.sentX s h9) (.waitDma2 (semAt cc0_scratch3 s.val s.isLt) (commAt (sendOff c s) (send_inb c s)) (stageAt (stageOff s) (stage_inb s h9))
      (comm_words _ (send_even c s) (dLen_even s)) (stage_words _ (stage_even s) (dLen_even s))) (qS s) (two_S s) (NM s) (sendPay P c s) (wpE_waitDma2_eq 𝒱₀ (c : Thread nD τ) none Set.univ) (fun _ => rfl)
    (amount_send P G c s 0) (payload_send P G c s 0) (fun l l' h => nil_inv (p := l = []) h id _) ?_ ?_
  · simp only [St.pre, sepL, at_]; iintro ⟨H, Hat, -⟩; isplitl [H] <;> iassumption
  · simp only [St.post, sepL, at_, sendPay]
    rw [if_pos h9]
    iintro ⟨Hz, Hp⟩
    isplitl [Hz]; · iexact Hz
    isplitl [Hp]; · iexact Hp
    iempintro

theorem rule_sent (c : Dev nD) (s : Fin 27) : Rule P G K c (.sent s) := by
  by_cases h9 : s.val < 9
  · intro l l' k Q hd
    obtain ⟨h, -⟩ := if_inv (p := l = [] ∧ 9 ≤ s.val) hd
    exact absurd h.2 (by omega)
  refine rule_wait P G K c (.sent s) (.waitDma2 (semAt cc0_scratch3 s.val s.isLt) (commAt (sendOff c s) (send_inb c s)) (commAt (sendOff c s) (send_inb c s))
      (comm_words _ (send_even c s) (dLen_even s)) (comm_words _ (send_even c s) (dLen_even s))) (qS s) (two_S s) (NM s) (sendPay P c s) (wpE_waitDma2_eq 𝒱₀ (c : Thread nD τ) none Set.univ) (fun _ => rfl)
    (amount_send P G c s 0) (payload_send P G c s 0) (fun l l' h => nil_inv (p := l = [] ∧ 9 ≤ s.val) h And.left _) ?_ ?_
  · simp only [St.pre, sepL, at_]; iintro ⟨H, Hat, -⟩; isplitl [H] <;> iassumption
  · simp only [St.post, sepL, at_, sendPay]
    rw [if_neg h9]
    iintro ⟨Hz, Hp⟩
    isplitl [Hz]; · iexact Hz
    isplitl [Hp]; · iexact Hp
    iempintro

theorem rule_copied (c : Dev nD) (s : Fin 27) : Rule P G K c (.copied s) := by
  refine rule_wait P G K c (.copied s) (.waitDma2 (semAt cc0_scratch5 (cIdx s) (cIdx_lt s)) (ostAt (recvOff c s) (recv_inb c s)) (outAt (recvOff c s) (recv_inb c s))
      (ost_words _) (out_words _)) (qC s) (two_C s) (NO s) (copyPay P G c s) (wpE_waitDma2_eq 𝒱₀ (c : Thread nD τ) none Set.univ) (fun _ => rfl)
    (amount_copy P G c s 0) (payload_copy P G c s 0) (fun l l' h => nil_inv (p := l = []) h id _) ?_ ?_
  · simp only [St.pre, sepL, at_]; iintro ⟨H, Hat, -⟩; isplitl [H] <;> iassumption
  · simp only [St.post, sepL, at_, copyPay]
    iintro ⟨Hz, Hr, Ho⟩
    isplitl
    · isplitl [Hr]; · iexact Hr
      isplitl [Ho]; · iexact Ho
      iexact Hz
    iempintro

theorem rule_fwd (c : Dev nD) (s : Fin 27) (h9 : 9 ≤ s.val) (l : List (Fin 27)) (k : Prog (PT (F := F)) PUnit) (Q : PUnit → sProp 𝕄) :
    iprop(Inv P G K ∗ owe c (s :: l) ∗ fwd P c s ∗ at_ P G c (.tok s))
      ⊢ iprop(((owe c l ∗ at_ P G c (.fly s)) -∗ wpP c k Q) -∗ wpP c (St.prog c (.send s) k) Q) := by
  have hpay : (((commAt (sendOff c s) (send_inb c s)).view.loc (c : Thread nD τ)) ↦[(commAt (sendOff c s) (send_inb c s)).view.set]{qSnd s}
      (commV P c : Buf (Elt F) (cLoc c)) : sProp 𝕄) ⊢ sendPay P c s := by
    rw [comm_pt c (send_inb c s) (sendOff_eq c s) (qSnd s) (commV P c)]
    unfold sendPay fwd
    rw [if_neg (by omega)]
  have h := wp_xfer P G K c s l k Q (src := commAt (sendOff c s) (send_inb c s)) (hsrc := comm_words _ (send_even c s) (dLen_even s))
    (hdst := comm_words _ (send_even c s) (dLen_even s)) (hsc := rfl) (hsem := ⟨⟨rfl, Or.inl rfl⟩, trivial⟩) (qSnd s) (commV P c)
    (fun k => (congrArg (commV P c) (comm_emb (send_inb c s) (sendOff_eq c s) (dRow_le _ s) k)).trans
      (fwd_eq P c s h9 _ (rowIx_mem (dRow_le _ s) k))) hpay
  rw [comm_pt c (send_inb c s) (sendOff_eq c s) (qSnd s) (commV P c)] at h
  exact h

/-- The rows sent on in a second step, out of the pieces they are received in. -/
theorem lend (c : Dev nD) (s : Fin 27) : sepL (at_ P G c) (St.send s).pre
    ⊢ iprop(fwd P c s ∗ at_ P G c (.tok s) ∗ (at_ P G c (.fly s) -∗ sepL (at_ P G c) (St.send s).post)) := by
  by_cases h17 : s = 17
  · subst h17
    have h := (lend17 P G c).1
    simp only [St.pre, St.post, if_true, sepL] at h ⊢
    iintro ⟨H1, H2, H3, Ht, -⟩
    ihave H := h $$ [H1 H2 H3]
    · isplitl [H1]; · iexact H1
      isplitl [H2]; · iexact H2
      isplitl [H3]; · iexact H3
      iempintro
    icases H with ⟨Hf, Hl, -⟩
    isplitl [Hf]; · simp only [at_]; iexact Hf
    isplitl [Ht]; · iexact Ht
    iintro Hy
    isplitl [Hy]; · iexact Hy
    isplitl [Hl]; · iexact Hl
    iempintro
  by_cases h26 : s = 26
  · subst h26
    have h := (lend26 P G c).1
    rw [show (St.send 26).pre = [.half 14, .half 15, .half 16, .tok 26] from rfl, show (St.send 26).post = [.fly 26, .left 26] from rfl]
    simp only [sepL] at h ⊢
    iintro ⟨H1, H2, H3, Ht, -⟩
    ihave H := h $$ [H1 H2 H3]
    · isplitl [H1]; · iexact H1
      isplitl [H2]; · iexact H2
      isplitl [H3]; · iexact H3
      iempintro
    icases H with ⟨Hf, Hl, -⟩
    isplitl [Hf]; · simp only [at_]; iexact Hf
    isplitl [Ht]; · iexact Ht
    iintro Hy
    isplitl [Hy]; · iexact Hy
    isplitl [Hl]; · iexact Hl
    iempintro
  unfold St.pre St.post
  simp only [if_neg h17, if_neg h26, sepL]
  iintro ⟨Hf, Ht, -⟩
  isplitl [Hf]; · simp only [at_]; iexact Hf
  isplitl [Ht]; · iexact Ht
  iintro Hy
  isplitl [Hy]; · iexact Hy
  iempintro

theorem rule_send (c : Dev nD) (s : Fin 27) : Rule P G K c (.send s) := by
  intro l l' k Q hd
  obtain ⟨⟨h, h9⟩, rfl⟩ := if_inv (p := l.head? = some s ∧ 9 ≤ s.val) hd
  rw [head_cons h, List.tail_cons]
  iintro ⟨#HI, #Hlev, HO, HA⟩ Hk
  ihave HA := (lend P G c s) $$ HA
  icases HA with ⟨Hf, Ht, Hw⟩
  iapply (rule_fwd P G K c s h9 l.tail k Q) $$ [HO Hf Ht]
  · isplitr; · iexact HI
    isplitl [HO]; · iexact HO
    isplitl [Hf] <;> iassumption
  iintro ⟨HO, Hy⟩
  iapply Hk
  isplitl [HO]; · iexact HO
  iapply Hw
  iexact Hy

theorem rule_stage (c : Dev nD) (s : Fin 27) (h9 : s.val < 9) : Rule P G K c (.stage s h9) := by
  intro l l' k Q hd
  obtain ⟨h, rfl⟩ := if_inv (p := l.head? = some s) hd
  rw [head_cons h, List.tail_cons]
  have hso : stageOff s = ![32 * s.val, 0] := rfl
  have hset := stage_set (stage_inb s h9) hso
  simp only [St.pre, St.post, sepL]
  rw [show at_ P G c .inp = iprop((((c : Thread nD τ).loc cc0_stg0_0) ↦{fullShare} P c) ∗ (((c : Thread nD τ).loc cc0_stg1_0) ↦{fullShare} G c)) from rfl,
    show at_ P G c (.stg s) = stg (F := F) c s from rfl]
  unfold stg
  iintro ⟨#HI, #Hlev, HO, ⟨Hp, Hg⟩, ⟨%f, Hs⟩, Ht, -⟩ Hk
  unfold St.prog
  iapply (wp_load_rect 𝒱₀ (c : Thread nD τ) none Set.univ (m := Memref.whole cc0_stg0_0)
    (r := Rect.unit (s := S1x2048x1024) (pSendOff c s) (S1n (dLen s)).size (pSend_inb c s h9)) (Finset.subset_univ _)) $$ Hp
  iintro Hp
  rw [read_snd P c s h9]
  ihave Hs := (Entails.of_eq (stage_pt c (stage_inb s h9) hso f).symm) $$ Hs
  iapply (wp_load_rect 𝒱₀ (c : Thread nD τ) none Set.univ (m := Memref.whole cc0_scratch1)
    (r := Rect.unit (s := S352x1024) (stageOff s) (Sn (dLen s)).size (stage_inb s h9)) (Finset.Subset.refl _)) $$ Hs
  iintro Hs
  iapply (wp_store 𝒱₀ (c : Thread nD τ) none Set.univ (m := Memref.whole cc0_scratch1)
    (r := Rect.unit (s := S352x1024) (stageOff s) (Sn (dLen s)).size (stage_inb s h9)) (Mk := Finset.univ)
    (S := ((Memref.whole cc0_scratch1).access (Rect.unit (s := S352x1024) (stageOff s) (Sn (dLen s)).size (stage_inb s h9))).set) (Finset.Subset.refl _)) $$ Hs
  iintro Hs
  iapply (wp_xfer P G K c s l.tail k Q (src := stageAt (stageOff s) (stage_inb s h9)) (hsrc := stage_words _ (stage_even s) (dLen_even s))
      (hdst := comm_words _ (send_even c s) (dLen_even s)) (hsc := rfl) (hsem := ⟨⟨rfl, Or.inl rfl⟩, trivial⟩) fullShare
      ((stageAt (stageOff s) (stage_inb s h9)).view.write (Elt F) f (xPay (dLen s) (pSnd P c s)) Finset.univ)
      (fun k => by
        have e := congrFun (View.read_write_univ (Val := Elt F) (v := (stageAt (stageOff s) (stage_inb s h9)).view) f (xPay (dLen s) (pSnd P c s))) k
        refine e.trans ?_
        have e1 := xPay_eq P c s h9 k
        have e2 := peer_x c s h9
        revert e1
        generalize px c = d at e2 ⊢
        subst e2
        exact id)
      (by rw [stage_pt c (stage_inb s h9) hso]
          unfold sendPay stg
          rw [if_pos h9]
          iintro H; iexists _; iexact H)) $$ [HO Hs Ht]
  · isplitr; · iexact HI
    isplitl [HO]; · iexact HO
    isplitl [Hs]; · iexact Hs
    iexact Ht
  iintro ⟨HO, Hy⟩
  iapply Hk
  isplitl [HO]; · iexact HO
  isplitl [Hp Hg]
  · isplitl [Hp] <;> iassumption
  isplitl [Hy]; · iexact Hy
  iempintro

/-- The rows stored in the result's staging buffer, as the copy reads them. -/
theorem stored (c : Dev nD) (s : Fin 27) (f : Buf (Elt F) (oLoc c)) (k : (Sn (dLen s)).Idx) :
    (ostAt (recvOff c s) (recv_inb c s)).view.read (Elt F)
        ((((Memref.whole cc0_scratch2).access (Rect.unit (s := S1024x1024) (loadOff c s) (Sn (dLen s)).size (load_inb c s))).write (Elt F) f
          (rowPay (dLen s) (mCh P c s) (pCh P c s) (G c)) Finset.univ) : Buf (Elt F) (oLoc c)) k
      = outV P G c (rowIx (dRow c s) (dRow_le c s) k) := by
  rw [outV_row]
  have e : (ostAt (recvOff c s) (recv_inb c s)).view.emb k
      = ((Memref.whole cc0_scratch2).access (Rect.unit (s := S1024x1024) (loadOff c s) (Sn (dLen s)).size (load_inb c s))).emb k :=
    (rect_emb (N := 1024) (recv_inb c s) (recvOff_eq c s) (dRow_le c s) k).trans (rect_emb (N := 1024) (load_inb c s) (loadOff_eq c s) (dRow_le c s) k).symm
  refine (congrArg (fun i => (((Memref.whole cc0_scratch2).access (Rect.unit (s := S1024x1024) (loadOff c s) (Sn (dLen s)).size (load_inb c s))).write (Elt F) f
          (rowPay (dLen s) (mCh P c s) (pCh P c s) (G c)) Finset.univ) i) e).trans ?_
  exact View.write_emb_of_mem _ _ (Finset.mem_univ k)

theorem rule_comp (c : Dev nD) (s : Fin 27) : Rule P G K c (.comp s) := by
  intro l l' k Q hd
  obtain rfl : l = l' := Option.some.inj hd
  simp only [St.pre, St.post, sepL]
  rw [show at_ P G c .inp = iprop((((c : Thread nD τ).loc cc0_stg0_0) ↦{fullShare} P c) ∗ (((c : Thread nD τ).loc cc0_stg1_0) ↦{fullShare} G c)) from rfl,
    show at_ P G c (.cm s) = cPt c (dRow c s) (dLen s) (qOwn s) (commV P c) from rfl,
    show at_ P G c (.ost s) = iprop((∃ f, oPt (F := F) c (dRow c s) (dLen s) f) ∗ (∃ f, rPt (F := F) c (dRow c s) (dLen s) f) ∗ dutyTok ER (copyCell c s) 0 0) from rfl,
    show at_ P G c (.cFly s) = cred (tallyAt (copyCell c s) () (NO s)) from rfl]
  iintro ⟨#HI, #Hlev, HO, ⟨Hp, Hg⟩, Hm, ⟨⟨%f, Ho⟩, ⟨%fr, Hr⟩, Ht⟩, -⟩ Hk
  ihave HqC := (Inv_dma P G K c (qC s) (two_C s)) $$ HI
  icases HqC with ⟨#HqC, #HrC⟩
  unfold St.prog
  ihave Hm := (Entails.of_eq (comm_pt c (load_inb c s) (loadOff_eq c s) (qOwn s) (commV P c)).symm) $$ Hm
  iapply (wp_load_rect 𝒱₀ (c : Thread nD τ) none Set.univ (m := Memref.whole cc0_scratch0)
    (r := Rect.unit (s := S1024x1024) (loadOff c s) (Sn (dLen s)).size (load_inb c s)) (Finset.Subset.refl _)) $$ Hm
  iintro Hm
  rw [read_comm P c s]
  iapply (wp_load_rect 𝒱₀ (c : Thread nD τ) none Set.univ (m := Memref.whole cc0_stg0_0)
    (r := Rect.unit (s := S1x2048x1024) (pOff c s) (S1n (dLen s)).size (p_inb c s)) (Finset.subset_univ _)) $$ Hp
  iintro Hp
  rw [read_own P c s]
  iapply (wp_load_rect 𝒱₀ (c : Thread nD τ) none Set.univ (m := Memref.whole cc0_stg1_0)
    (r := Rect.unit (s := S1024) ![0] S1024.size inb_S1024_S1024_0) (Finset.subset_univ _)) $$ Hg
  iintro Hg
  rw [read_gamma G c]
  ihave Ho := (Entails.of_eq (ost_pt c (load_inb c s) (loadOff_eq c s) f).symm) $$ Ho
  iapply (wp_load_rect 𝒱₀ (c : Thread nD τ) none Set.univ (m := Memref.whole cc0_scratch2)
    (r := Rect.unit (s := S1024x1024) (loadOff c s) (Sn (dLen s)).size (load_inb c s)) (Finset.Subset.refl _)) $$ Ho
  iintro Ho
  iapply (wp_store 𝒱₀ (c : Thread nD τ) none Set.univ (m := Memref.whole cc0_scratch2)
    (r := Rect.unit (s := S1024x1024) (loadOff c s) (Sn (dLen s)).size (load_inb c s)) (Mk := Finset.univ)
    (S := ((Memref.whole cc0_scratch2).access (Rect.unit (s := S1024x1024) (loadOff c s) (Sn (dLen s)).size (load_inb c s))).set) (Finset.Subset.refl _)) $$ Ho
  iintro Ho
  ihave Ho := (Entails.of_eq ((ost_pt c (load_inb c s) (loadOff_eq c s) _).trans (ost_pt c (recv_inb c s) (recvOff_eq c s) _).symm)) $$ Ho
  ihave Hr := (Entails.of_eq (out_pt c (recv_inb c s) (recvOff_eq c s) fr).symm) $$ Hr
  have hd₁ : (0 : Fin 3) ∈ (Rd P G).duties (copyCell c s) 0 := by rw [duties_dma P G c _ (two_C s)]; exact Finset.mem_singleton_self _
  iapply (Rounds.wp_copy_pointsTo 𝒱₀ ER (Rd P G) (c : Thread nD τ) none (src := ostAt (recvOff c s) (recv_inb c s)) (dst := outAt (recvOff c s) (recv_inb c s))
      (sem := .dma (qC s)) (q := fullShare) (r := 0) (d := 0) (κ := K (c, iq (qC s) (two_C s))) hd₁ () (NO s) rfl (amount_copy P G c s 0)
      (by rw [payload_copy]
          unfold copyPay
          exact sep_mono (Entails.of_eq (out_lands c (recv_inb c s) (recvOff_eq c s) (dRow_le c s) fr (outV P G c) _ (stored P G c s f)))
            (by rw [ost_pt c (recv_inb c s) (recvOff_eq c s)]; iintro H; iexists _; iexact H)))
    $$ [Ho Hr Ht]
  · isplitr; · iexact HqC
    isplitl [Ho]; · iexact Ho
    isplitl [Hr]; · iexact Hr
    isplitl [Ht]; · iexact Ht
    iexact HrC
  iintro Hc
  iapply Hk
  isplitl [HO]; · iexact HO
  isplitl [Hp Hg]
  · isplitl [Hp] <;> iassumption
  isplitl [Hm]
  · ihave Hm := (Entails.of_eq (comm_pt c (load_inb c s) (loadOff_eq c s) (qOwn s) (commV P c))) $$ Hm
    iexact Hm
  isplitl [Hc]; · iexact Hc
  iempintro

theorem rule (c : Dev nD) : ∀ st : St, Rule P G K c st
  | .stage s h => rule_stage P G K c s h
  | .recv s => rule_recv P G K c s
  | .send s => rule_send P G K c s
  | .comp s => rule_comp P G K c s
  | .sentX s h => rule_sentX P G K c s h
  | .sent s => rule_sent P G K c s
  | .copied s => rule_copied P G K c s

end Rules

end Cert.KP

end
-- ==== Proof.Engine.lean ====
/-
# The steps in a row

A list of steps runs if each finds the pieces it takes among those the steps before it left (`check`, which decides).
-/
module

public import proofs.«01_k».proof.Proof.Rules

@[expose] public section

noncomputable section

namespace Cert.KP

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → Vec F S1x2048x1024 .f32) (G : Dev nD → Vec F S1024 .f32) (K : Dev nD × Fin 82 → ℕ)

/-- The pieces of `l` taken out of `A`: what remains. -/
def takeL : List At → List At → Option (List At)
  | [], A => some A
  | a :: l, A => if a ∈ A then takeL l (A.erase a) else none

theorem takeL_ok (f : At → sProp 𝕄) : ∀ (l A B : List At), takeL l A = some B → sepL f A ⊢ iprop(sepL f l ∗ sepL f B)
  | [], A, B, h => by
    obtain rfl : A = B := Option.some.inj h
    iintro H
    isplitr; · rw [sepL_nil]; iempintro
    iexact H
  | a :: l, A, B, h => by
    have h' : (if a ∈ A then takeL l (A.erase a) else none) = some B := h
    split at h'
    · rename_i ha
      iintro H
      ihave H := (sepL_take f a A ha) $$ H
      icases H with ⟨Ha, H⟩
      ihave H := (takeL_ok f l (A.erase a) B h') $$ H
      icases H with ⟨Hl, H⟩
      isplitl [Ha Hl]
      · rw [sepL_cons]; isplitl [Ha] <;> iassumption
      iexact H
    · cases h'

/-- The sends to come and the pieces after the steps of a list. -/
def check : List (Fin 27) → List At → List St → Option (List (Fin 27) × List At)
  | O, A, [] => some (O, A)
  | O, A, st :: l => (st.due O).bind fun O' => (takeL st.pre A).bind fun B => check O' (st.post ++ B) l

theorem check_ok (c : Dev nD) (Q : PUnit → sProp 𝕄) (O' : List (Fin 27)) (A' : List At) :
    ∀ (l : List St) (O : List (Fin 27)) (A : List At), check O A l = some (O', A') →
    iprop(Inv P G K ∗ levAts L lv ∗ owe c O ∗ sepL (at_ P G c) A)
      ⊢ iprop(((owe c O' ∗ sepL (at_ P G c) A') -∗ |={Set.univ}=> Q ⟨⟩) -∗ wpP c (prog c l) Q)
  | [], O, A, h => by
    obtain ⟨rfl, rfl⟩ := Prod.mk.inj (Option.some.inj h)
    show _ ⊢ iprop(_ -∗ wp frame (wpE (defs₀ (F := F)) 𝒱₀ (c : Thread nD τ) none) Set.univ (.ret ⟨⟩) Q)
    rw [wp_ret]
    iintro ⟨-, -, HO, HA⟩ Hk
    iapply Hk
    isplitl [HO] <;> iassumption
  | st :: l, O, A, h => by
    obtain ⟨O₁, hd, h⟩ := Option.bind_eq_some_iff.mp (show ((st.due O).bind fun O' => (takeL st.pre A).bind fun B => check O' (st.post ++ B) l) = _ from h)
    obtain ⟨B, hB, h⟩ := Option.bind_eq_some_iff.mp h
    show _ ⊢ iprop(_ -∗ wpP c (st.prog c (prog c l)) Q)
    iintro ⟨#HI, #Hlev, HO, HA⟩ Hk
    ihave HA := (takeL_ok (at_ P G c) st.pre A B hB) $$ HA
    icases HA with ⟨Hp, HB⟩
    iapply (rule P G K c st O O₁ (prog c l) Q hd) $$ [HO Hp]
    · isplitr; · iexact HI
      isplitr; · iexact Hlev
      isplitl [HO] <;> iassumption
    iintro ⟨HO, Hp⟩
    iapply (check_ok c Q O' A' l O₁ (st.post ++ B) h) $$ [HO Hp HB]
    · isplitr; · iexact HI
      isplitr; · iexact Hlev
      isplitl [HO]; · iexact HO
      iapply (sepL_append (at_ P G c) st.post B).2
      isplitl [Hp] <;> iassumption
    iexact Hk

/-! ## The body's steps -/

/-- The pieces after the handshake. -/
def A₀ : List At :=
  .inp :: ((List.finRange 27).map .pos ++ (List.finRange 27).map .tok ++ (List.finRange 27).map .ost ++ (List.finRange 27).map .cPos
    ++ (List.finRange 27).map .sPos ++ ((List.finRange 27).filter fun s => decide (s.val < 9)).map .stg)
/-- The pieces at the end. -/
def A₁ : List At :=
  .inp :: ((List.finRange 27).map .semR ++ ((List.finRange 27).map .semS ++ ((List.finRange 27).map .done ++
    (((List.finRange 27).filter fun s => decide (s.val < 9)).map .stg ++ (List.finRange 27).flatMap recvPost))))

/-- The whole course: the steps, then the rows lent back to their slots. -/
def course : Option (List At) :=
  (check sendOrder A₀ steps).bind fun OA => if OA.1 = [] then
    (takeL [.fwd 17, .left 17] OA.2).bind fun B => (takeL [.fwd 26, .left 26] ([.half 21, .half 22, .half 23] ++ B)).bind fun C =>
      takeL A₁ ([.half 14, .half 15, .half 16] ++ C) else none

theorem course_ok : course = some [] := by decide +kernel

theorem steps_ok (c : Dev nD) (Q : PUnit → sProp 𝕄) :
    iprop(Inv P G K ∗ levAts L lv ∗ owe c sendOrder ∗ sepL (at_ P G c) A₀)
      ⊢ iprop(((owe c [] ∗ sepL (at_ P G c) A₁) -∗ |={Set.univ}=> Q ⟨⟩) -∗ wpP c (prog c steps) Q) := by
  obtain ⟨⟨O, A⟩, hc, h⟩ := Option.bind_eq_some_iff.mp course_ok
  obtain ⟨hO, h⟩ : O = [] ∧ _ := by
    by_cases hO : O = []
    · exact ⟨hO, (if_pos hO).symm.trans h⟩
    · exact absurd ((if_neg hO).symm.trans h) (by exact fun h => nomatch h)
  subst hO
  obtain ⟨B, hB, h⟩ := Option.bind_eq_some_iff.mp h
  obtain ⟨C, hC, h⟩ := Option.bind_eq_some_iff.mp h
  iintro ⟨#HI, #Hlev, HO, HA⟩ Hk
  iapply (check_ok P G K c Q [] A steps sendOrder A₀ hc) $$ [HO HA]
  · isplitr; · iexact HI
    isplitr; · iexact Hlev
    isplitl [HO] <;> iassumption
  iintro ⟨HO, HA⟩
  iapply Hk
  isplitl [HO]; · iexact HO
  ihave HA := (takeL_ok (at_ P G c) _ _ _ hB) $$ HA
  icases HA with ⟨H1, HA⟩
  ihave H1 := (lend17 P G c).2 $$ H1
  ihave HA := (sepL_append (at_ P G c) _ B).2 $$ [H1 HA]
  · isplitl [H1]; · iexact H1
    iexact HA
  ihave HA := (takeL_ok (at_ P G c) _ _ _ hC) $$ HA
  icases HA with ⟨H1, HA⟩
  ihave H1 := (lend26 P G c).2 $$ H1
  ihave HA := (sepL_append (at_ P G c) _ C).2 $$ [H1 HA]
  · isplitl [H1]; · iexact H1
    iexact HA
  ihave HA := (takeL_ok (at_ P G c) _ _ _ h) $$ HA
  icases HA with ⟨H1, -⟩
  iexact H1

end Cert.KP

end
-- ==== Proof.Rows.lean ====
/-
# Whole buffers and their rows

The 27 slots' rows are the receive buffer's 1024, and so for the buffers laid out like it; the nine slots sent from the
staging buffer are its 352.
-/
module

public import proofs.«01_k».proof.Proof.Engine

@[expose] public section

noncomputable section

namespace Cert.KP

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Generic
variable {ℓ : Loc nD τ sig} {A : Type} [DecidableEq A] (l : List A) (hn : l.Nodup) (K : A → Finset (Idx ℓ))
  (hd : ∀ a ∈ l, ∀ b ∈ l, a ≠ b → Disjoint (K a) (K b)) (hu : l.toFinset.biUnion K = Finset.univ)
include hn hd hu

theorem whole_rows (f : Buf (Elt F) ℓ) : (ℓ ↦{fullShare} f : sProp 𝕄) = sepL (fun a => iprop(ℓ ↦[K a]{fullShare} f)) l := by
  rw [← bigSep_list _ l hn, ← hu]
  exact pointsTo_biUnion _ K fun a ha b hb => hd a (List.mem_toFinset.mp ha) b (List.mem_toFinset.mp hb)

theorem rows_whole (f₀ : Buf (Elt F) ℓ) :
    sepL (fun a => iprop(∃ f, ℓ ↦[K a]{fullShare} f)) l ⊢ (iprop(∃ f, ℓ ↦{fullShare} f) : sProp 𝕄) := by
  rw [← bigSep_list _ l hn]
  refine (BI.bigSep_exists_pi l.toFinset fun a f => iprop(ℓ ↦[K a]{fullShare} f)).trans ?_
  iintro ⟨%fs, H⟩
  have h := pointsTo_biUnion_join (nD := nD) (τ := τ) (sig := sig) (Val := Elt F) (Ix := Unit) (Name := ℕ) (U := UU) (Lvl := ℕ) (ℓ := ℓ) (q := fullShare) l.toFinset K fs f₀
    fun a ha b hb => hd a (List.mem_toFinset.mp ha) b (List.mem_toFinset.mp hb)
  rw [hu] at h
  ihave H := h $$ H
  icases H with ⟨%g, -, H⟩
  iexists g
  iexact H

end Generic

theorem cover : ∀ (c : Dev nD) (b : Fin 64), ∃ s : Fin 27, dRow c s ≤ 16 * b.val ∧ 16 * b.val + 16 ≤ dRow c s + dLen s := by decide +kernel

theorem slots_cover (c : Dev nD) : (List.finRange 27).toFinset.biUnion (fun s => rws 1024 (dRow c s) (dLen s)) = Finset.univ := by
  refine Finset.eq_univ_of_forall fun i => ?_
  have hi : (i 0).val < 1024 := (i 0).isLt
  obtain ⟨s, h1, h2⟩ := cover c ⟨(i 0).val / 16, by omega⟩
  dsimp only at h1 h2
  refine Finset.mem_biUnion.mpr ⟨s, List.mem_toFinset.mpr (List.mem_finRange s), mem_rws.mpr ?_⟩
  omega
theorem slots_apart (c : Dev nD) (s : Fin 27) (t : Fin 27) (h : s ≠ t) : Disjoint (rws 1024 (dRow c s) (dLen s)) (rws 1024 (dRow c t) (dLen t)) :=
  rws_disjoint (dRow_apart c s t h)

abbrev xSlots : List (Fin 27) := (List.finRange 27).filter fun s => decide (s.val < 9)

theorem cover_x : ∀ b : Fin 11, ∃ s : Fin 27, s.val < 9 ∧ 32 * s.val ≤ 32 * b.val ∧ 32 * b.val + 32 ≤ 32 * s.val + dLen s := by decide +kernel
theorem apart_x : ∀ s t : Fin 27, s.val < 9 → t.val < 9 → s ≠ t → 32 * s.val + dLen s ≤ 32 * t.val ∨ 32 * t.val + dLen t ≤ 32 * s.val := by decide +kernel
theorem mem_xSlots {s : Fin 27} : s ∈ xSlots ↔ s.val < 9 := by
  rw [List.mem_filter]
  exact ⟨fun h => of_decide_eq_true h.2, fun h => ⟨List.mem_finRange s, decide_eq_true h⟩⟩
theorem xSlots_cover : xSlots.toFinset.biUnion (fun s => rws 352 (32 * s.val) (dLen s)) = Finset.univ := by
  refine Finset.eq_univ_of_forall fun i => ?_
  have hi : (i 0).val < 352 := (i 0).isLt
  obtain ⟨s, h0, h1, h2⟩ := cover_x ⟨(i 0).val / 32, by omega⟩
  dsimp only at h1 h2
  refine Finset.mem_biUnion.mpr ⟨s, List.mem_toFinset.mpr (mem_xSlots.mpr h0), mem_rws.mpr ?_⟩
  omega
theorem xSlots_apart (s : Fin 27) (hs : s ∈ xSlots) (t : Fin 27) (ht : t ∈ xSlots) (h : s ≠ t) :
    Disjoint (rws 352 (32 * s.val) (dLen s)) (rws 352 (32 * t.val) (dLen t)) :=
  rws_disjoint (apart_x s t (mem_xSlots.mp hs) (mem_xSlots.mp ht) h)

section Buffers
variable (c : Dev nD)

theorem comm_rows (f : Buf (Elt F) (cLoc c)) :
    ((cLoc c) ↦{fullShare} f : sProp 𝕄) = sepL (fun s => cPt c (dRow c s) (dLen s) fullShare f) (List.finRange 27) :=
  whole_rows (ℓ := cLoc c) (List.finRange 27) (List.nodup_finRange 27) (fun s => rws 1024 (dRow c s) (dLen s)) (fun s _ t _ => slots_apart c s t) (slots_cover c) f
theorem out_rows (f : Buf (Elt F) (rLoc c)) :
    ((rLoc c) ↦{fullShare} f : sProp 𝕄) = sepL (fun s => rPt c (dRow c s) (dLen s) f) (List.finRange 27) :=
  whole_rows (ℓ := rLoc c) (List.finRange 27) (List.nodup_finRange 27) (fun s => rws 1024 (dRow c s) (dLen s)) (fun s _ t _ => slots_apart c s t) (slots_cover c) f
theorem ost_rows (f : Buf (Elt F) (oLoc c)) :
    ((oLoc c) ↦{fullShare} f : sProp 𝕄) = sepL (fun s => oPt c (dRow c s) (dLen s) f) (List.finRange 27) :=
  whole_rows (ℓ := oLoc c) (List.finRange 27) (List.nodup_finRange 27) (fun s => rws 1024 (dRow c s) (dLen s)) (fun s _ t _ => slots_apart c s t) (slots_cover c) f
theorem stage_rows (f : Buf (Elt F) (sLoc c)) :
    ((sLoc c) ↦{fullShare} f : sProp 𝕄) = sepL (fun s => sPt c (32 * s.val) (dLen s) f) xSlots :=
  whole_rows (ℓ := sLoc c) xSlots ((List.nodup_finRange 27).filter _) (fun s => rws 352 (32 * s.val) (dLen s)) xSlots_apart xSlots_cover f

theorem rows_ost (f₀ : Buf (Elt F) (oLoc c)) :
    sepL (fun s => iprop(∃ f, oPt (F := F) c (dRow c s) (dLen s) f)) (List.finRange 27) ⊢ (iprop(∃ f, (oLoc c) ↦{fullShare} f) : sProp 𝕄) :=
  rows_whole (ℓ := oLoc c) (List.finRange 27) (List.nodup_finRange 27) (fun s => rws 1024 (dRow c s) (dLen s)) (fun s _ t _ => slots_apart c s t) (slots_cover c) f₀
theorem rows_stage (f₀ : Buf (Elt F) (sLoc c)) :
    sepL (stg (F := F) c) xSlots ⊢ (iprop(∃ f, (sLoc c) ↦{fullShare} f) : sProp 𝕄) :=
  rows_whole (ℓ := sLoc c) xSlots ((List.nodup_finRange 27).filter _) (fun s => rws 352 (32 * s.val) (dLen s)) xSlots_apart xSlots_cover f₀

end Buffers

theorem sepL_flatMap {A B : Type} (g : A → List B) (f : B → sProp 𝕄) : ∀ l : List A, sepL f (l.flatMap g) ⊢ sepL (fun a => sepL f (g a)) l
  | [] => Entails.refl _
  | a :: l => by
    rw [List.flatMap_cons, sepL_cons]
    iintro H
    ihave H := (sepL_append f (g a) (l.flatMap g)).1 $$ H
    icases H with ⟨H1, H2⟩
    isplitl [H1]; · iexact H1
    iapply (sepL_flatMap g f l)
    iexact H2

end Cert.KP

end
-- ==== Proof.Body.lean ====
/-
# The body, once, on any device

The handshake hands each neighbour the rows of this device's receive buffer that the neighbour writes, and brings the
neighbours' in return; then the steps run, and every buffer comes back whole, the result holding `outV`.
-/
module

public import proofs.«01_k».proof.Proof.Rows

@[expose] public section

noncomputable section

namespace Cert.KP

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → Vec F S1x2048x1024 .f32) (G : Dev nD → Vec F S1024 .f32) (K : Dev nD × Fin 82 → ℕ)

/-! ## The handshake -/

theorem wp_sig (c : Dev nD) (d : Fin 3) (n : Dev nD) (hn : n = nb c d) (Oa Ob : CellTallies nD τ sig Unit)
    (hO : Oa = Ob + tallyAt (barCell (nb c d)) () 1) (W : Waits sig Unit) (k : PUnit → Prog (PT (F := F)) PUnit) (Q : PUnit → sProp 𝕄) :
    iprop(Inv P G K ∗ owes (c : Thread nD τ) Oa W ∗ dutyTok ER (barCell (nb c d)) 0 d ∗ barPay (F := F) (nb c d) d)
      ⊢ iprop((owes (c : Thread nD τ) Ob W -∗ wpP c (k ⟨⟩) Q) -∗ wpP c (.op (.semSignal (Dev.tc n) barS 1) k) Q) := by
  subst hn
  iintro ⟨#HI, HO, Ht, Hp⟩ Hk
  ihave HB := (Inv_bar P G K (nb c d)) $$ HI
  icases HB with ⟨#HB, #Hr⟩
  iapply (Rounds.wp_signal 𝒱₀ ER (Rd P G) (c : Thread nD τ) none (dst := (nb c d : Thread nD τ)) (κ := K (nb c d, 0))
      (d := d) (by rw [duties_bar]; exact Finset.mem_univ _) ((amount_bar P G (nb c d) d).trans (by decide)) () Ob hO) $$ [HO Ht Hp]
  · isplitr; · iexact HB
    isplitl [HO]; · iexact HO
    isplitl [Ht]; · iexact Ht
    isplitl [Hp]; · rw [payload_bar]; iexact Hp
    iexact Hr
  iintro HO
  iapply Hk
  iexact HO

/-- The rows handed to a neighbour are the device's own. -/
theorem barPay_own (c : Dev nD) (d : Fin 3) :
    barPay (F := F) (nb c d) d = sepL (fun s => iprop(∃ f, cPt (F := F) c (dRow c s) (dLen s) fullShare f)) (slots d) := by
  refine sepL_congr fun s hs => ?_
  unfold landing
  rw [peer_nb (nb c d) d s hs, nb_nb]

theorem slots_all : List.finRange 27 = slots 0 ++ (slots 1 ++ slots 2) := by decide +kernel

/-- What a device signals with, and waits for the signals with. -/
def hand (c : Dev nD) : sProp 𝕄 :=
  iprop(dutyTok ER (barCell (nb c 0)) 0 0 ∗ dutyTok ER (barCell (nb c 1)) 0 1 ∗ dutyTok ER (barCell (nb c 2)) 0 2
    ∗ cred (tallyAt (barCell c) () 3) ∗ atPos ER (barCell c) 0 ∅ 0)

/-- The tokens of slot `s`'s transfer. -/
def toks (c : Dev nD) (s : Fin 27) : sProp 𝕄 := iprop(dutyTok ER (sendCell c s) 0 0 ∗ dutyTok ER (recvCell (peer c s) s) 0 0)

/-- What a device has, beside its buffers, when the body starts. -/
def ready (c : Dev nD) : sProp 𝕄 :=
  iprop(hand (F := F) c ∗ sepL (toks (F := F) c) (List.finRange 27)
    ∗ sepL (fun s => iprop(cred (tallyAt (recvCell c s) () (NM s)) ∗ atPos ER (recvCell c s) 0 ∅ 0)) (List.finRange 27)
    ∗ sepL (fun s => dutyTok ER (copyCell c s) 0 0) (List.finRange 27)
    ∗ sepL (fun s => atPos ER (copyCell c s) 0 ∅ 0) (List.finRange 27)
    ∗ sepL (fun s => atPos ER (sendCell c s) 0 ∅ 0) (List.finRange 27))

/-- All the device's semaphores at zero. -/
def semsBack (c : Dev nD) : sProp 𝕄 :=
  iprop(semVal (barCell c) 0 ∗ sepL (fun s => semVal (sendCell c s) 0) (List.finRange 27) ∗ sepL (fun s => semVal (recvCell c s) 0) (List.finRange 27)
    ∗ sepL (fun s => semVal (copyCell c s) 0) (List.finRange 27))

/-- The scratch buffers, whole. -/
def scratch (c : Dev nD) : sProp 𝕄 :=
  iprop((∃ f : Buf (Elt F) (cLoc c), (cLoc c) ↦{fullShare} f) ∗ (∃ f : Buf (Elt F) (sLoc c), (sLoc c) ↦{fullShare} f)
    ∗ (∃ f : Buf (Elt F) (oLoc c), (oLoc c) ↦{fullShare} f))

theorem any_o (c : Dev nD) (f : Buf (Elt F) (oLoc c)) : sepL (fun s => oPt c (dRow c s) (dLen s) f) (List.finRange 27)
    ⊢ sepL (fun s => iprop(∃ f, oPt (F := F) c (dRow c s) (dLen s) f)) (List.finRange 27) := by
  refine sepL_mono fun s _ => ?_
  iintro H; iexists f; iexact H
theorem any_r (c : Dev nD) (f : Buf (Elt F) (rLoc c)) : sepL (fun s => rPt c (dRow c s) (dLen s) f) (List.finRange 27)
    ⊢ sepL (fun s => iprop(∃ f, rPt (F := F) c (dRow c s) (dLen s) f)) (List.finRange 27) := by
  refine sepL_mono fun s _ => ?_
  iintro H; iexists f; iexact H
theorem any_s (c : Dev nD) (f : Buf (Elt F) (sLoc c)) : sepL (fun s => sPt c (32 * s.val) (dLen s) f) xSlots
    ⊢ sepL (fun s => iprop(∃ f, sPt (F := F) c (32 * s.val) (dLen s) f)) xSlots := by
  refine sepL_mono fun s _ => ?_
  iintro H; iexists f; iexact H

/-- The pieces the steps start with. -/
theorem pieces_in (c : Dev nD) :
    iprop(at_ P G c .inp ∗ sepL (landing (F := F) c) (List.finRange 27) ∗ sepL (toks (F := F) c) (List.finRange 27)
      ∗ sepL (fun s => iprop(cred (tallyAt (recvCell c s) () (NM s)) ∗ atPos ER (recvCell c s) 0 ∅ 0)) (List.finRange 27)
      ∗ sepL (fun s => dutyTok ER (copyCell c s) 0 0) (List.finRange 27)
      ∗ sepL (fun s => atPos ER (copyCell c s) 0 ∅ 0) (List.finRange 27)
      ∗ sepL (fun s => atPos ER (sendCell c s) 0 ∅ 0) (List.finRange 27)
      ∗ (∃ f : Buf (Elt F) (sLoc c), (sLoc c) ↦{fullShare} f) ∗ (∃ f : Buf (Elt F) (oLoc c), (oLoc c) ↦{fullShare} f)
      ∗ (∃ f : Buf (Elt F) (rLoc c), (rLoc c) ↦{fullShare} f)) ⊢ sepL (at_ P G c) A₀ := by
  iintro ⟨Hi, Hl, Ht, Hp, Hc, HcP, HsP, ⟨%fs, Hs⟩, ⟨%fo, Ho⟩, ⟨%fr, Hr⟩⟩
  unfold A₀
  rw [sepL_cons]
  isplitl [Hi]; · iexact Hi
  iapply (sepL_append (at_ P G c) _ _).2
  isplitr [Hs]
  · iapply (sepL_append (at_ P G c) _ _).2
    isplitr [HsP]
    · iapply (sepL_append (at_ P G c) _ _).2
      isplitr [HcP]
      · iapply (sepL_append (at_ P G c) _ _).2
        isplitr [Hc Ho Hr]
        · iapply (sepL_append (at_ P G c) _ _).2
          isplitl [Hp]
          · rw [sepL_map]; simp only [at_]; iexact Hp
          · rw [sepL_map]; simp only [at_]
            iapply (sepL_sep _ _ _).2
            isplitl [Hl]; · iexact Hl
            unfold toks
            iexact Ht
        · rw [sepL_map]; simp only [at_]
          iapply (sepL_sep _ _ _).2
          isplitl [Ho]
          · iapply any_o c fo
            iapply (Entails.of_eq (ost_rows c fo)); iexact Ho
          iapply (sepL_sep _ _ _).2
          isplitl [Hr]
          · iapply any_r c fr
            iapply (Entails.of_eq (out_rows c fr)); iexact Hr
          iexact Hc
      · rw [sepL_map]; simp only [at_]; iexact HcP
    · rw [sepL_map]; simp only [at_]; iexact HsP
  · rw [sepL_map]; simp only [at_]
    unfold stg
    iapply any_s c fs
    iapply (Entails.of_eq (stage_rows c fs)); iexact Hs

/-- The pieces the steps end with: every buffer whole, every semaphore at zero. -/
theorem pieces_out (c : Dev nD) (fs : Buf (Elt F) (sLoc c)) (fo : Buf (Elt F) (oLoc c)) :
    sepL (at_ P G c) A₁ ⊢ iprop(at_ P G c .inp ∗ scratch (F := F) c ∗ ((rLoc c) ↦{fullShare} outV P G c)
      ∗ sepL (fun s => semVal (sendCell c s) 0) (List.finRange 27) ∗ sepL (fun s => semVal (recvCell c s) 0) (List.finRange 27)
      ∗ sepL (fun s => semVal (copyCell c s) 0) (List.finRange 27)) := by
  unfold A₁
  rw [sepL_cons]
  iintro ⟨Hi, H⟩
  ihave H := (sepL_append (at_ P G c) _ _).1 $$ H
  icases H with ⟨HR, H⟩
  ihave H := (sepL_append (at_ P G c) _ _).1 $$ H
  icases H with ⟨HS, H⟩
  ihave H := (sepL_append (at_ P G c) _ _).1 $$ H
  icases H with ⟨HD, H⟩
  ihave H := (sepL_append (at_ P G c) _ _).1 $$ H
  icases H with ⟨Hs, Hc⟩
  simp only [sepL_map, at_]
  ihave HD := (sepL_sep _ _ _).1 $$ HD
  icases HD with ⟨Hr, HD⟩
  ihave HD := (sepL_sep _ _ _).1 $$ HD
  icases HD with ⟨Ho, HC⟩
  isplitl [Hi]; · iexact Hi
  isplitl [Hc Hs Ho]
  · unfold scratch
    isplitl [Hc]
    · iexists commV P c
      rw [comm_rows]
      ihave Hc := (sepL_flatMap recvPost (at_ P G c) _) $$ Hc
      iapply (sepL_mono fun s _ => (recv_split P G c s).2)
      iexact Hc
    isplitl [Hs]
    · iapply (rows_stage c fs); iexact Hs
    · iapply (rows_ost c fo); iexact Ho
  isplitl [Hr]
  · iapply (Entails.of_eq (out_rows c (outV P G c)).symm); iexact Hr
  isplitl [HS]; · iexact HS
  isplitl [HR]; · iexact HR
  iexact HC

theorem body_run (c : Dev nD) (W : Waits sig Unit) (Q : PUnit → sProp 𝕄) :
    iprop(Inv P G K ∗ levAts L lv ∗ owes (c : Thread nD τ) (O₀ c) W ∗ ready (F := F) c ∗ at_ P G c .inp ∗ scratch (F := F) c
        ∗ (∃ f : Buf (Elt F) (rLoc c), (rLoc c) ↦{fullShare} f))
      ⊢ iprop(((owe c [] ∗ at_ P G c .inp ∗ scratch (F := F) c ∗ ((rLoc c) ↦{fullShare} outV P G c) ∗ semsBack (F := F) c) -∗ |={Set.univ}=> Q ⟨⟩)
        -∗ wpP c (body (F := F)) Q) := by
  unfold body ready hand scratch
  rw [show wpP c (.op .deviceId fun d =>
      .op (.semSignal (Dev.tc (px d)) barS 1) fun _ => .op (.semSignal (Dev.tc (py d)) barS 1) fun _ =>
      .op (.semSignal (Dev.tc (pz d)) barS 1) fun _ => .op (.semWait barS 3) fun _ => prog d steps) Q
    = wpP c (.op (.semSignal (Dev.tc (px c)) barS 1) fun _ => .op (.semSignal (Dev.tc (py c)) barS 1) fun _ =>
      .op (.semSignal (Dev.tc (pz c)) barS 1) fun _ => .op (.semWait barS 3) fun _ => prog c steps) Q from by unfold wpP; rw [wp_deviceId]]
  iintro ⟨#HI, #Hlev, HO, ⟨⟨Ht0, Ht1, Ht2, Hcr, Hat⟩, Ht, Hp, Hc, HcP, HsP⟩, Hi, ⟨⟨%fc, HC⟩, ⟨%fs, Hs⟩, ⟨%fo, Ho⟩⟩, Hr⟩ Hk
  -- the device's receive buffer, in the three neighbours' parts
  ihave HC := (Entails.of_eq (comm_rows c fc)) $$ HC
  ihave HC := (sepL_mono fun s _ => (show cPt c (dRow c s) (dLen s) fullShare fc ⊢ iprop(∃ f, cPt (F := F) c (dRow c s) (dLen s) fullShare f) by
    iintro H; iexists fc; iexact H)) $$ HC
  rw [slots_all]
  ihave HC := (sepL_append _ (slots 0) _).1 $$ HC
  icases HC with ⟨H0, HC⟩
  ihave HC := (sepL_append _ (slots 1) _).1 $$ HC
  icases HC with ⟨H1, H2⟩
  rw [← slots_all]
  iapply (wp_sig P G K c 0 (px c) rfl (O₀ c) (O₁ c) rfl W _ Q) $$ [HO Ht0 H0]
  · isplitr; · iexact HI
    isplitl [HO]; · iexact HO
    isplitl [Ht0]; · iexact Ht0
    rw [barPay_own]; iexact H0
  iintro HO
  iapply (wp_sig P G K c 1 (py c) rfl (O₁ c) (O₂ c) rfl W _ Q) $$ [HO Ht1 H1]
  · isplitr; · iexact HI
    isplitl [HO]; · iexact HO
    isplitl [Ht1]; · iexact Ht1
    rw [barPay_own]; iexact H1
  iintro HO
  iapply (wp_sig P G K c 2 (pz c) rfl (O₂ c) (owedL c sendOrder) rfl W _ Q) $$ [HO Ht2 H2]
  · isplitr; · iexact HI
    isplitl [HO]; · iexact HO
    isplitl [Ht2]; · iexact Ht2
    rw [barPay_own]; iexact H2
  iintro HO
  ihave HB := (Inv_bar P G K c) $$ HI
  icases HB with ⟨#HB, -⟩
  iapply (Rounds.wp_wait_rest_token 𝒱₀ ER (Rd P G) (c : Thread nD τ) none (κ := K (c, 0))
      (wpE_semWait_eq 𝒱₀ (c : Thread nD τ) none Set.univ) (Set.mem_univ _) () (O := owedL c sendOrder) (W := W) (R := 0) (m := 0) (T := ∅)
      (by rw [expect_bar])) $$ [Hcr HO Hat]
  · isplitr; · iexact HB
    isplitl [Hcr]; · iexact Hcr
    isplitl [HO]; · iexact HO
    isplitr; · iapply (mayWait_list c (.reg barS) sendOrder fun s _ => lvS_pos s); iexact Hlev
    iexact Hat
  iintro ⟨HO, Hat, -, Hpay⟩
  ihave HL := (Entails.of_eq (rest_bar P G c)) $$ Hpay
  unfold barPay
  icases HL with ⟨HL0, HL1, HL2⟩
  imod (Rounds.cell_close ER (Rd P G) (Set.mem_univ (K (c, 0))) (fun h => h) (R := 0 + 1) (duties_later P G (barCell c))) $$ [Hat] with Hz
  · isplitr; · iexact HB
    iexact Hat
  ihave HA := (pieces_in P G c) $$ [Hi HL0 HL1 HL2 Ht Hp Hc HcP HsP Hs Ho Hr]
  · isplitl [Hi]; · iexact Hi
    isplitl [HL0 HL1 HL2]
    · rw [slots_all]
      iapply (sepL_append _ (slots 0) _).2
      isplitl [HL0]; · iexact HL0
      iapply (sepL_append _ (slots 1) _).2
      isplitl [HL1]; · iexact HL1
      iexact HL2
    isplitl [Ht]; · iexact Ht
    isplitl [Hp]; · iexact Hp
    isplitl [Hc]; · iexact Hc
    isplitl [HcP]; · iexact HcP
    isplitl [HsP]; · iexact HsP
    isplitl [Hs]; · iexists fs; iexact Hs
    isplitl [Ho]; · iexists fo; iexact Ho
    iexact Hr
  iapply (steps_ok P G K c Q) $$ [HO HA]
  · isplitr; · iexact HI
    isplitr; · iexact Hlev
    isplitl [HO]; · unfold owe; iexists _; iexact HO
    iexact HA
  iintro ⟨HO, HA⟩
  iapply Hk
  isplitl [HO]; · iexact HO
  ihave HA := (pieces_out P G c fs fo) $$ HA
  unfold scratch
  icases HA with ⟨Hi, Hb, Hr, HS, HR, HC⟩
  isplitl [Hi]; · iexact Hi
  isplitl [Hb]; · iexact Hb
  isplitl [Hr]; · iexact Hr
  unfold semsBack
  isplitl [Hz]; · iexact Hz
  isplitl [HS]; · iexact HS
  isplitl [HR]; · iexact HR
  iexact HC

end Cert.KP

end
-- ==== Proof.Deal.lean ====
/-
# Dealing the launch's resources

Each device's 82 cells get their invariants; then every token goes to the device that will pay with it: a barrier's
token to the neighbour that signals it, a receive cell's to the neighbour that sends.
-/
module

public import proofs.«01_k».proof.Proof.Body

@[expose] public section

noncomputable section

namespace Cert.KP

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → Vec F S1x2048x1024 .f32) (G : Dev nD → Vec F S1024 .f32)

/-! ## A device's cells, by kind -/

def iS (s : Fin 27) : Fin 82 := iq (qS s) (two_S s)
def iR (s : Fin 27) : Fin 82 := iq (qR s) (two_R s)
def iC (s : Fin 27) : Fin 82 := iq (qC s) (two_C s)

def kinds : List (Fin 82) := 0 :: ((List.finRange 27).map iS ++ ((List.finRange 27).map iR ++ (List.finRange 27).map iC))

theorem kinds_nodup : kinds.Nodup := by decide +kernel
theorem kinds_all : ∀ k : Fin 82, k ∈ kinds := by decide +kernel
theorem kinds_univ : (Finset.univ : Finset (Fin 82)) = kinds.toFinset :=
  (Finset.eq_univ_iff_forall.mpr fun k => List.mem_toFinset.mpr (kinds_all k)).symm

theorem kcell_S (c : Dev nD) (s : Fin 27) : kcell (c, iS s) = sendCell c s := congrArg _ (csem_iq (qS s) (two_S s))
theorem kcell_R (c : Dev nD) (s : Fin 27) : kcell (c, iR s) = recvCell c s := congrArg _ (csem_iq (qR s) (two_R s))
theorem kcell_C (c : Dev nD) (s : Fin 27) : kcell (c, iC s) = copyCell c s := congrArg _ (csem_iq (qC s) (two_C s))

theorem cells_split (c : Dev nD) (f : GSem nD τ sig → sProp 𝕄) :
    bigSep Finset.univ (fun k : Fin 82 => f (kcell (c, k)))
      ⊣⊢ iprop(f (barCell c) ∗ sepL (fun s => f (sendCell c s)) (List.finRange 27) ∗ sepL (fun s => f (recvCell c s)) (List.finRange 27)
        ∗ sepL (fun s => f (copyCell c s)) (List.finRange 27)) := by
  rw [kinds_univ, bigSep_list _ kinds kinds_nodup]
  unfold kinds
  rw [sepL_cons, show f (kcell (c, 0)) = f (barCell c) from rfl]
  have hS : sepL (fun k => f (kcell (c, k))) ((List.finRange 27).map iS) = sepL (fun s => f (sendCell c s)) (List.finRange 27) := by
    rw [sepL_map]; exact sepL_congr fun s _ => congrArg f (kcell_S c s)
  have hR : sepL (fun k => f (kcell (c, k))) ((List.finRange 27).map iR) = sepL (fun s => f (recvCell c s)) (List.finRange 27) := by
    rw [sepL_map]; exact sepL_congr fun s _ => congrArg f (kcell_R c s)
  have hC : sepL (fun k => f (kcell (c, k))) ((List.finRange 27).map iC) = sepL (fun s => f (copyCell c s)) (List.finRange 27) := by
    rw [sepL_map]; exact sepL_congr fun s _ => congrArg f (kcell_C c s)
  rw [← hS, ← hR, ← hC]
  constructor
  · iintro ⟨HB, H⟩
    ihave H := (sepL_append _ _ _).1 $$ H
    icases H with ⟨HS, H⟩
    ihave H := (sepL_append _ _ _).1 $$ H
    icases H with ⟨HR, HC⟩
    isplitl [HB]; · iexact HB
    isplitl [HS]; · iexact HS
    isplitl [HR] <;> iassumption
  · iintro ⟨HB, HS, HR, HC⟩
    isplitl [HB]; · iexact HB
    iapply (sepL_append _ _ _).2
    isplitl [HS]; · iexact HS
    iapply (sepL_append _ _ _).2
    isplitl [HR] <;> iassumption

/-! ## The semaphores at zero -/

/-- The kernel's own semaphores: the 81 of its transfers. -/
abbrev osem (k : Fin 81) : SemLoc sig := .dma ⟨k.val + 2, by have := k.isLt; show _ < 83; omega⟩

theorem csem_succ (k : Fin 81) : csem k.succ = osem k := by
  unfold csem
  rw [dif_neg (by rw [Fin.val_succ]; omega)]
  rfl

theorem unscopedSems0_eq (c : Dev nD) : (unscopedSems0 c : sProp 𝕄) = semVal (barCell c) 0 := by
  unfold unscopedSems0; rw [bigSep_eq_bigSepL_of_eq [SemLoc.reg barS] (by decide) (by decide)]; rfl

abbrev own0 (c : Dev nD) : sProp 𝕄 := Pipeline.ownSems0 (Ix := Unit) (Name := ℕ) (U := UU) (Lvl := ℕ) (Val := Elt F) (τ := τ) osem c

theorem sems0_eq (c : Dev nD) :
    bigSep Finset.univ (fun k : Fin 82 => (semVal (kcell (c, k)) 0 : sProp 𝕄)) = iprop(semVal (barCell c) 0 ∗ own0 (F := F) c) := by
  have hu : (Finset.univ : Finset (Fin 82)) = insert 0 (Finset.univ.map ⟨Fin.succ, Fin.succ_injective 81⟩) := by
    rw [Fin.univ_succ, Finset.cons_eq_insert]
  rw [hu, bigSep_insert (by simp [Fin.succ_ne_zero]), bigSep_map]
  unfold own0 Pipeline.ownSems0
  rw [show kcell (c, 0) = barCell c from rfl]
  refine congrArg (fun X : sProp 𝕄 => iprop(semVal (barCell c) 0 ∗ X)) (bigSep_congr fun k _ => ?_)
  exact congrArg (fun l : SemLoc sig => (semVal ((c : Thread nD τ), l) 0 : sProp 𝕄)) (csem_succ k)

theorem sems_back (c : Dev nD) : semsBack (F := F) c ⊢ iprop(semVal (barCell c) 0 ∗ own0 (F := F) c) := by
  rw [← sems0_eq]
  exact (cells_split c fun g => semVal g 0).2

/-! ## The ghost state -/

theorem kcell_injective : Function.Injective kcell := by
  rintro ⟨c, k⟩ ⟨c', k'⟩ h
  have h1 : c = c' := congrArg (fun g : GSem nD τ sig => g.1.1) h
  have h2 : csem k = csem k' := congrArg Prod.snd h
  subst h1
  unfold csem at h2
  by_cases hk : k.val = 0 <;> by_cases hk' : k'.val = 0
  · exact congrArg _ (Fin.ext (hk.trans hk'.symm))
  · rw [dif_pos hk, dif_neg hk'] at h2; cases h2
  · rw [dif_neg hk, dif_pos hk'] at h2; cases h2
  · rw [dif_neg hk, dif_neg hk'] at h2
    have h3 := congrArg Fin.val (SemLoc.dma.inj h2)
    exact congrArg _ (Fin.ext (Nat.succ.inj h3))

def theCells : Finset (GSem nD τ sig) := Finset.univ.map ⟨kcell, kcell_injective⟩

def tokOf (x : (Dev nD × Fin 82) × Fin 3) : GSem nD τ sig × ℕ × Fin 3 := (kcell x.1, 0, x.2)
theorem tokOf_injective : Function.Injective tokOf := fun x y h =>
  Prod.ext (kcell_injective (congrArg Prod.fst h)) (congrArg (fun t => t.2.2) h)
def theToks : Finset (GSem nD τ sig × ℕ × Fin 3) := Finset.univ.map ⟨tokOf, tokOf_injective⟩

def u₀ : UU := (initOf (Pipeline.cells cfgs cellOf_inj) (Pipeline.launchToks cfgs cellOf_inj), initOf theCells theToks)

/-- The tokens of a device's own cells. -/
def minted (c : Dev nD) : sProp 𝕄 := bigSep Finset.univ fun k : Fin 82 => bigSep Finset.univ fun d : Fin 3 => dutyTok ER (kcell (c, k)) 0 d

def marks (c : Dev nD) : sProp 𝕄 := bigSep Finset.univ fun k : Fin 82 => iprop(atPos ER (kcell (c, k)) 0 ∅ 0 ∗ reached ER (kcell (c, k)) 0)

/-- What the launch deals device `c`. -/
def dealt (c : Dev nD) : sProp 𝕄 :=
  iprop((bigSep Finset.univ fun k : Fin 82 => roundState ER (Rd P G) (kcell (c, k)) 0) ∗ marks (F := F) c ∗ minted (F := F) c)

theorem fund_cells : BI.own (ER (initOf theCells theToks)) ⊢ (|==> bigSep Finset.univ (dealt P G) : sProp 𝕄) := by
  have hX (Φ : GSem nD τ sig → sProp 𝕄) : bigSep theCells Φ = bigSep Finset.univ fun c : Dev nD => bigSep Finset.univ fun k : Fin 82 => Φ (kcell (c, k)) := by
    unfold theCells; rw [bigSep_map, bigSep_univ_prod]; rfl
  have hT : bigSep theToks (fun x => (dutyTok ER x.1 x.2.1 x.2.2 : sProp 𝕄)) = bigSep Finset.univ fun c : Dev nD => minted (F := F) c := by
    unfold theToks; rw [bigSep_map, bigSep_univ_prod, bigSep_univ_prod]; rfl
  iintro HX
  imod (Rounds.fund ER (Rd P G) theCells theToks) $$ HX with ⟨Hst, Hr, Hat, Htok⟩
  imodintro
  ihave Hst := (Entails.of_eq (hX fun g => roundState ER (Rd P G) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold dealt marks; simp only [bigSep_sep']
  isplitl [Hst]; · iexact Hst
  isplitl [Hat Hr]
  · isplitl [Hat] <;> iassumption
  iexact Htok

def invsOf (c : Dev nD) : sProp 𝕄 := bigSep Finset.univ fun k : Fin 82 => iprop(∃ κ : ℕ, cellInv ER (Rd P G) κ (kcell (c, k)))

theorem core_alloc (c : Dev nD) :
    iprop(own0 (F := F) c ∗ unscopedSems0 c ∗ dealt P G c) ⊢ |={Set.univ}=> iprop(invsOf P G c ∗ marks (F := F) c ∗ minted (F := F) c) := by
  unfold dealt
  iintro ⟨Hos, Hus, Hst, Hat, Htok⟩
  ihave Hus := (Entails.of_eq (unscopedSems0_eq c)) $$ Hus
  ihave Hv := (Entails.of_eq (sems0_eq (F := F) c).symm) $$ [Hos Hus]
  · isplitl [Hus] <;> iassumption
  imod (show iprop((bigSep Finset.univ fun k : Fin 82 => semVal (kcell (c, k)) 0) ∗ bigSep Finset.univ fun k : Fin 82 => roundState ER (Rd P G) (kcell (c, k)) 0)
      ⊢ (|={Set.univ}=> invsOf P G c : sProp 𝕄) from by
        rw [← bigSep_sep']
        exact (bigSep_mono fun k _ => (Rounds.body_intro ER (Rd P G) (kcell (c, k))).trans inv_alloc).trans (bigSep_fupd _ _)) $$ [Hv Hst] with Hinv
  · isplitl [Hv] <;> iassumption
  imodintro
  isplitl [Hinv]; · iexact Hinv
  isplitl [Hat] <;> iassumption

/-! ## The tokens, dealt around -/

/-- The tokens used of a device's own cells. -/
def ownToks (c : Dev nD) : sProp 𝕄 :=
  iprop((bigSep Finset.univ fun d : Fin 3 => dutyTok ER (barCell c) 0 d) ∗ (bigSep Finset.univ fun s : Fin 27 => dutyTok ER (recvCell c s) 0 0)
    ∗ sepL (fun s => dutyTok ER (sendCell c s) 0 0) (List.finRange 27) ∗ sepL (fun s => dutyTok ER (copyCell c s) 0 0) (List.finRange 27))
/-- The tokens a device pays with. -/
def payToks (c : Dev nD) : sProp 𝕄 :=
  iprop((bigSep Finset.univ fun d : Fin 3 => dutyTok ER (barCell (nb c d)) 0 d) ∗ (bigSep Finset.univ fun s : Fin 27 => dutyTok ER (recvCell (peer c s) s) 0 0)
    ∗ sepL (fun s => dutyTok ER (sendCell c s) 0 0) (List.finRange 27) ∗ sepL (fun s => dutyTok ER (copyCell c s) 0 0) (List.finRange 27))

theorem minted_own (c : Dev nD) : minted (F := F) c ⊢ ownToks c := by
  have one (g : GSem nD τ sig) : (bigSep Finset.univ fun d : Fin 3 => dutyTok ER g 0 d) ⊢ (dutyTok ER g 0 0 : sProp 𝕄) := bigSep_elim (Finset.mem_univ 0)
  unfold minted ownToks
  rw [bigSep_fr]
  iintro H
  ihave H := (cells_split c fun g => bigSep Finset.univ fun d : Fin 3 => dutyTok ER g 0 d).1 $$ H
  icases H with ⟨HB, HS, HR, HC⟩
  isplitl [HB]; · iexact HB
  isplitl [HR]; · iapply (sepL_mono fun s _ => one (recvCell c s)); iexact HR
  isplitl [HS]; · iapply (sepL_mono fun s _ => one (sendCell c s)); iexact HS
  iapply (sepL_mono fun s _ => one (copyCell c s)); iexact HC

/-- A device's direction, seen from the neighbour; a device's slot, seen from the sender. -/
def across : Dev nD × Fin 3 ≃ Dev nD × Fin 3 :=
  ⟨fun x => (nb x.1 x.2, x.2), fun x => (nb x.1 x.2, x.2), fun x => Prod.ext (nb_nb x.1 x.2) rfl, fun x => Prod.ext (nb_nb x.1 x.2) rfl⟩
def over : Dev nD × Fin 27 ≃ Dev nD × Fin 27 :=
  ⟨fun x => (peer x.1 x.2, x.2), fun x => (peer x.1 x.2, x.2), fun x => Prod.ext (peer_peer x.1 x.2) rfl, fun x => Prod.ext (peer_peer x.1 x.2) rfl⟩

theorem toks_around : (bigSep Finset.univ fun c : Dev nD => ownToks (F := F) c) ⊢ bigSep Finset.univ fun c : Dev nD => payToks (F := F) c := by
  have hB : (bigSep Finset.univ fun c : Dev nD => bigSep Finset.univ fun d : Fin 3 => (dutyTok ER (barCell c) 0 d : sProp 𝕄))
      = bigSep Finset.univ fun c : Dev nD => bigSep Finset.univ fun d : Fin 3 => dutyTok ER (barCell (nb c d)) 0 d := by
    rw [← bigSep_univ_prod (fun x : Dev nD × Fin 3 => (dutyTok ER (barCell x.1) 0 x.2 : sProp 𝕄)),
      ← bigSep_univ_prod (fun x : Dev nD × Fin 3 => (dutyTok ER (barCell (nb x.1 x.2)) 0 x.2 : sProp 𝕄)), bigSep_univ_equiv across]
    rfl
  have hR : (bigSep Finset.univ fun c : Dev nD => bigSep Finset.univ fun s : Fin 27 => (dutyTok ER (recvCell c s) 0 0 : sProp 𝕄))
      = bigSep Finset.univ fun c : Dev nD => bigSep Finset.univ fun s : Fin 27 => dutyTok ER (recvCell (peer c s) s) 0 0 := by
    rw [← bigSep_univ_prod (fun x : Dev nD × Fin 27 => (dutyTok ER (recvCell x.1 x.2) 0 0 : sProp 𝕄)),
      ← bigSep_univ_prod (fun x : Dev nD × Fin 27 => (dutyTok ER (recvCell (peer x.1 x.2) x.2) 0 0 : sProp 𝕄)), bigSep_univ_equiv over]
    rfl
  unfold ownToks payToks
  rw [bigSep_sep', bigSep_sep', hB, hR, ← bigSep_sep', ← bigSep_sep']

/-- What a device starts with, but for its credits. -/
def held (c : Dev nD) : sProp 𝕄 :=
  iprop(payToks (F := F) c ∗ bigSep Finset.univ fun k : Fin 82 => atPos ER (kcell (c, k)) 0 ∅ 0)
def given (c : Dev nD) : sProp 𝕄 := iprop((∃ K, Inv P G K) ∗ held (F := F) c)

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop(invsOf P G c ∗ marks (F := F) c ∗ minted (F := F) c)) ⊢ bigSep Finset.univ (given P G) := by
  have hI : (bigSep Finset.univ fun c : Dev nD => invsOf P G c) ⊢ iprop(∃ K : Dev nD × Fin 82 → ℕ, bigSep Finset.univ fun ck => cellInv ER (Rd P G) (K ck) (kcell ck)) := by
    unfold invsOf
    rw [← bigSep_univ_prod (fun ck : Dev nD × Fin 82 => iprop(∃ κ : ℕ, cellInv ER (Rd P G) κ (kcell ck)))]
    exact BI.bigSep_exists_pi Finset.univ (fun (ck : Dev nD × Fin 82) (κ : ℕ) => (cellInv ER (Rd P G) κ (kcell ck) : sProp 𝕄))
  have hM : (bigSep Finset.univ fun c : Dev nD => marks (F := F) c)
      = iprop((bigSep Finset.univ fun c : Dev nD => bigSep Finset.univ fun k : Fin 82 => (atPos ER (kcell (c, k)) 0 ∅ 0 : sProp 𝕄))
        ∗ bigSep Finset.univ fun ck : Dev nD × Fin 82 => reached ER (kcell ck) 0) := by
    unfold marks
    rw [bigSep_univ_prod, ← bigSep_sep']
    exact bigSep_congr fun c _ => bigSep_sep' _ _ _
  rw [bigSep_sep', bigSep_sep', hM]
  iintro ⟨HI, ⟨Hat, #HR⟩, Htok⟩
  ihave HK := hI $$ HI
  icases HK with ⟨%K, #HI⟩
  ihave Htk := (show (bigSep Finset.univ fun c : Dev nD => minted (F := F) c) ⊢ bigSep Finset.univ fun c : Dev nD => ownToks (F := F) c from
    bigSep_mono fun c _ => minted_own c) $$ Htok
  ihave Htk := (toks_around (F := F)) $$ Htk
  iapply (with_persistent (R := Inv P G K) (Φ := held) fun c _ => show iprop(Inv P G K ∗ held c) ⊢ given P G c from by
    unfold given
    iintro ⟨#H, Hh⟩
    isplitr
    · iexists K; iexact H
    iexact Hh)
  isplitr
  · unfold Inv
    rw [bigSep_sep']
    isplitr; · iexact HI
    iexact HR
  · unfold held
    rw [bigSep_sep']
    isplitl [Htk] <;> iassumption

theorem glob : (bigSep Finset.univ fun c => iprop(own0 (F := F) c ∗ unscopedSems0 c ∗ dealt P G c) : sProp 𝕄)
    ⊢ |={Set.univ}=> bigSep Finset.univ (given P G) :=
  ((bigSep_mono fun c _ => core_alloc P G c).trans (bigSep_fupd _ _)).trans (BI.fupd_mono (regroup P G))

/-! ## The launch credit -/

theorem bar_ne_recv (a b : Dev nD) (s : Fin 27) : barCell a ≠ recvCell b s := fun h => by cases congrArg Prod.snd h
theorem bar_inj {a b : Dev nD} (h : barCell a = barCell b) : a = b := congrArg (fun g : GSem nD τ sig => g.1.1) h
theorem recv_inj {a b : Dev nD} {s t : Fin 27} (h : recvCell a s = recvCell b t) : a = b ∧ s = t := by
  refine ⟨congrArg (fun g : GSem nD τ sig => g.1.1) h, ?_⟩
  have h2 : (qR s).val = (qR t).val := congrArg Fin.val (SemLoc.dma.inj (congrArg Prod.snd h))
  rw [qR_val, qR_val] at h2
  exact Fin.ext (by omega)

theorem owedL_bar (d c : Dev nD) : ∀ l, owedL d l (barCell c) () = 0
  | [] => rfl
  | s :: l => by
    show (owedL d l + tallyAt (recvCell (peer d s) s) () (NM s)) (barCell c) () = 0
    rw [Pi.add_apply, Finsupp.add_apply, owedL_bar d c l, tallyAt_ne_cell (bar_ne_recv _ _ _)]
    rfl

theorem owedL_recv (d c : Dev nD) (s : Fin 27) : ∀ l, owedL d l (recvCell c s) () = if d = peer c s then l.count s * NM s else 0
  | [] => by rw [List.count_nil, Nat.zero_mul, ite_self]; rfl
  | t :: l => by
    show (owedL d l + tallyAt (recvCell (peer d t) t) () (NM t)) (recvCell c s) () = _
    rw [Pi.add_apply, Finsupp.add_apply, owedL_recv d c s l, tallyAt_apply, List.count_cons]
    by_cases hst : t = s
    · subst hst
      by_cases hd : d = peer c t
      · subst hd
        rw [peer_peer, if_pos rfl, if_pos rfl, if_pos ⟨rfl, rfl⟩, beq_self_eq_true, if_pos rfl, Nat.add_mul, Nat.one_mul]
      · rw [if_neg hd, if_neg hd, if_neg (show ¬(recvCell c t = recvCell (peer d t) t ∧ () = ()) from fun h => hd (by rw [(recv_inj h.1).1, peer_peer]))]
    · rw [if_neg (show ¬(recvCell c s = recvCell (peer d t) t ∧ () = ()) from fun h => hst (recv_inj h.1).2.symm), Nat.add_zero,
        if_neg (show ¬(t == s) = true by simpa using hst), Nat.add_zero]

theorem count_one : ∀ s : Fin 27, sendOrder.count s = 1 := by decide +kernel

theorem tally_bar (d c : Dev nD) (i : Fin 3) : (tallyAt (barCell (nb d i)) () 1 : CellTallies nD τ sig Unit) (barCell c) () = if d = nb c i then 1 else 0 := by
  rw [tallyAt_apply]
  by_cases h : d = nb c i
  · subst h; rw [nb_nb, if_pos ⟨rfl, rfl⟩, if_pos rfl]
  · rw [if_neg h, if_neg fun e => h (by rw [bar_inj e.1, nb_nb])]

theorem owed_bar (d c : Dev nD) : O₀ d (barCell c) () = (if d = nb c 2 then 1 else 0) + (if d = nb c 1 then 1 else 0) + (if d = nb c 0 then 1 else 0) := by
  unfold O₀ O₁ O₂
  simp only [Pi.add_apply, Finsupp.add_apply]
  rw [owedL_bar, tally_bar, tally_bar, tally_bar, Nat.zero_add]

theorem owed_recv (d c : Dev nD) (s : Fin 27) : O₀ d (recvCell c s) () = if d = peer c s then NM s else 0 := by
  unfold O₀ O₁ O₂
  simp only [Pi.add_apply, Finsupp.add_apply]
  rw [owedL_recv, count_one, Nat.one_mul, tallyAt_ne_cell (bar_ne_recv _ _ _).symm, tallyAt_ne_cell (bar_ne_recv _ _ _).symm,
    tallyAt_ne_cell (bar_ne_recv _ _ _).symm]
  rfl

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (nb c 2) fun _ => 1, Finset.sum_ite_eq' Finset.univ (nb c 1) fun _ => 1, Finset.sum_ite_eq' Finset.univ (nb c 0) fun _ => 1,
    if_pos (Finset.mem_univ _), if_pos (Finset.mem_univ _), if_pos (Finset.mem_univ _)]

theorem launch_recv (c : Dev nD) (s : Fin 27) :
    tallyOn (recvCell c s) (launchCredit (Pipeline.owing O₀) 0 (recvCell c s)) = (tallyAt (recvCell c s) () (NM s) : CellTallies nD τ sig Unit) := by
  unfold tallyAt; refine congrArg _ (Finsupp.ext fun u => ?_); cases u
  rw [Pipeline.launchCredit_owing, Finsupp.single_eq_same, Finset.sum_congr rfl fun d _ => owed_recv d c s, Finset.sum_ite_eq' Finset.univ (peer c s) fun _ => NM s,
    if_pos (Finset.mem_univ _)]

def creditAt : List (SemLoc sig) := .reg barS :: (List.finRange 27).map fun s => .dma (qR s)
theorem creditAt_nodup : creditAt.Nodup := by decide +kernel

theorem creds (c : Dev nD) :
    (Pipeline.launchCred O₀ c : sProp 𝕄) ⊢ iprop(cred (tallyAt (barCell c) () 3) ∗ sepL (fun s => cred (tallyAt (recvCell c s) () (NM s))) (List.finRange 27)) := by
  unfold Pipeline.launchCred
  refine (bigSep_subset (Finset.subset_univ creditAt.toFinset)).trans ?_
  rw [bigSep_list _ creditAt creditAt_nodup]
  unfold creditAt
  rw [sepL_cons, sepL_map, launch_bar, sepL_congr fun s _ => congrArg cred (launch_recv c s)]
  exact Entails.refl _

/-- What a device has, beside its buffers, when its body starts. -/
theorem ready_intro (c : Dev nD) : iprop(held (F := F) c ∗ Pipeline.launchCred O₀ c) ⊢ ready (F := F) c := by
  unfold held payToks ready hand toks
  rw [bigSep_fr]
  iintro ⟨⟨⟨HB, HR, HS, HC⟩, Hat⟩, Hcr⟩
  ihave Hcr := (creds c) $$ Hcr
  icases Hcr with ⟨Hcb, Hcr⟩
  ihave Hat := (cells_split c fun g => atPos ER g 0 ∅ 0).1 $$ Hat
  icases Hat with ⟨HaB, HaS, HaR, HaC⟩
  ihave HB := (Entails.of_eq (show (bigSep Finset.univ fun d : Fin 3 => (dutyTok ER (barCell (nb c d)) 0 d : sProp 𝕄))
      = iprop(dutyTok ER (barCell (nb c 0)) 0 0 ∗ dutyTok ER (barCell (nb c 1)) 0 1 ∗ dutyTok ER (barCell (nb c 2)) 0 2) from
    bigSep_univ_eq_bigSepL [0, 1, 2] (by decide) (by decide) _)) $$ HB
  icases HB with ⟨HB0, HB1, HB2⟩
  isplitl [HB0 HB1 HB2 Hcb HaB]
  · isplitl [HB0]; · iexact HB0
    isplitl [HB1]; · iexact HB1
    isplitl [HB2]; · iexact HB2
    isplitl [Hcb] <;> iassumption
  isplitl [HS HR]
  · iapply (sepL_sep _ _ _).2
    isplitl [HS] <;> iassumption
  isplitl [Hcr HaR]
  · iapply (sepL_sep _ _ _).2
    isplitl [Hcr] <;> iassumption
  isplitl [HC]; · iexact HC
  isplitl [HaC] <;> iassumption

end Cert.KP

end
-- ==== Proof.Launch.lean ====
/-
# The run of the kernel on the mesh

For any float values, from any memory with zero counters: every run ends, each device's result array holds `outV` of
the devices' operands, the operands are unchanged and every semaphore counter is zero.
-/
module

public import proofs.«01_k».proof.Proof.Deal
public import Idealize.ShloMosaic.Lib.Pipeline.CollectiveSegs

@[expose] public section

noncomputable section

namespace Cert.KP

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every semaphore counter zero, any generator registers. -/
def s₀ : MemSt nD τ sig (Elt F) := ⟨m, fun _ => 0, ρ⟩

/-- The operands as the pipeline stages them. -/
def opP (c : Dev nD) : Vec F S1x2048x1024 .f32 := (win0_0.blk (0 : Fin 1)).view.read (Elt F) ((s₀ m ρ).mem ((c : Thread nD τ).loc main_arg0))
def opG (c : Dev nD) : Vec F S1024 .f32 := (win0_1.blk (0 : Fin 1)).view.read (Elt F) ((s₀ m ρ).mem ((c : Thread nD τ).loc main_arg1))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def start (c : Dev nD) : sProp 𝕄 :=
  iprop((∃ K, Inv (opP m ρ) (opG m ρ) K) ∗ ready (F := F) c ∗ levAts L lv ∗ ∃ f : Buf (Elt F) (rLoc c), (rLoc c) ↦{fullShare} f)
def result (c : Dev nD) : sProp 𝕄 := (rLoc c) ↦{fullShare} outV (opP m ρ) (opG m ρ) c

def Φ₀ (c : Dev nD) : sProp 𝕄 := iprop(start m ρ c ∗ scratch (F := F) c)
def Φ₁ (c : Dev nD) : sProp 𝕄 := iprop(scratch (F := F) c ∗ result m ρ c ∗ semsBack (F := F) c)

def dats (_ : Fin 1) (c : Dev nD) : Pipeline.Dat τ (Elt F) Unit ℕ UU ℕ cfg0 c where
  A w := (s₀ m ρ).mem ((cfg0.win w).arr.view.loc (c : Thread nD τ))
  after w _ := match w with
    | ⟨0, _⟩ => opP m ρ c
    | ⟨1, _⟩ => opG m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl
theorem fetch_1 (t : Fin cfg0.N) : (cfg0.win (1 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body's obligation -/

abbrev held1 (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
def bodyPre (c : Dev nD) : sProp 𝕄 :=
  iprop(Φ₀ m ρ c ∗ (dats m ρ 0 c).owesAt () t₀.castSucc
    ∗ (∃ d, held1 c cc0_stg0_0 ((dats m ρ 0 c).before (0 : Fin 2) t₀ d))
    ∗ (∃ d, held1 c cc0_stg1_0 ((dats m ρ 0 c).before (1 : Fin 2) t₀ d)))

def bodyPost (c : Dev nD) : sProp 𝕄 :=
  iprop(Φ₁ m ρ c ∗ (dats m ρ 0 c).owesAt () t₀.succ ∗ held1 c cc0_stg0_0 (opP m ρ c) ∗ held1 c cc0_stg1_0 (opG m ρ c))

theorem body_done (c : Dev nD) (W : Waits sig Unit) :
    iprop(owes (c : Thread nD τ) 0 W ∗ at_ (opP m ρ) (opG m ρ) c .inp ∗ scratch (F := F) c ∗ result m ρ c ∗ semsBack (F := F) c) ⊢ bodyPost m ρ c := by
  unfold bodyPost Φ₁ Pipeline.Dat.owesAt Pipeline.owesWithin
  rw [show (dats m ρ 0 c).owed t₀.succ = 0 from rfl]
  simp only [at_]
  iintro ⟨HO, ⟨Hp, Hg⟩, Hs, Hr, Hb⟩
  isplitl [Hs Hr Hb]
  · isplitl [Hs]; · iexact Hs
    isplitl [Hr] <;> iassumption
  isplitl [HO]
  · iexists W
    isplitr; · ipureintro; exact fun _ _ => Or.inl trivial
    iexact HO
  isplitl [Hp]
  · iexists _; isplitr; · (ipureintro; rfl)
    iexact Hp
  iexists _; isplitr; · (ipureintro; rfl)
  iexact Hg

theorem body_wp (c : Dev nD) : bodyPre m ρ c ⊢ wpP c (body (F := F)) (fun _ => bodyPost m ρ c) := by
  unfold bodyPre Φ₀ start
  unfold Pipeline.Dat.owesAt Pipeline.owesWithin
  rw [show (dats m ρ 0 c).owed t₀.castSucc = O₀ c from rfl]
  iintro ⟨⟨⟨⟨%K, #HI⟩, Hrd, #Hlev, Hr⟩, Hs⟩, ⟨%W, %hW, HO⟩, ⟨%d0, %g0, %hg0, Hp⟩, ⟨%d1, %g1, %hg1, Hg⟩⟩
  have h0 : g0 = opP m ρ c := by rw [hg0]; unfold Pipeline.Dat.before; rw [if_pos (fetch_0 t₀)]; rfl
  have h1 : g1 = opG m ρ c := by rw [hg1]; unfold Pipeline.Dat.before; rw [if_pos (fetch_1 t₀)]; rfl
  subst h0 h1
  iapply (body_run (opP m ρ) (opG m ρ) K c W fun _ => bodyPost m ρ c) $$ [Hrd Hr Hs HO Hp Hg]
  · isplitr; · iexact HI
    isplitr; · iexact Hlev
    isplitl [HO]; · iexact HO
    isplitl [Hrd]; · iexact Hrd
    isplitl [Hp Hg]
    · simp only [at_]
      isplitl [Hp] <;> iassumption
    isplitl [Hs] <;> iassumption
  unfold owe
  iintro ⟨⟨%W', HO⟩, Hi, Hs, Hr, Hb⟩
  imodintro
  iapply (body_done m ρ c W')
  isplitl [HO]; · iexact HO
  isplitl [Hi]; · iexact Hi
  isplitl [Hs]; · iexact Hs
  isplitl [Hr]; · unfold result; iexact Hr
  iexact Hb

set_option maxRecDepth 65536 in
theorem body_obligation (c : Dev nD) : Pipeline.BodyObligation (dats (F := F) m ρ 0 c) (defs₀ (F := F)) 𝒱₀ () Set.univ := fun t => by
  rw [fin_N t]
  rw [bigSep_W, bigSep_W]
  simp only [owns_whole_eq]
  show bodyPre m ρ c ⊢ wpP c (cc0_body (F := F) (Memref.whole cc0_stg0_0) (Memref.isWhole_whole _) (Memref.whole cc0_stg1_0) (Memref.isWhole_whole _)
    (Memref.whole main_v1) (Memref.isWhole_whole _) (Memref.whole cc0_scratch0) (Memref.isWhole_whole _)
    (Memref.whole cc0_scratch1) (Memref.isWhole_whole _) (Memref.whole cc0_scratch2) (Memref.isWhole_whole _)
    cc0_scratch3 cc0_scratch4 cc0_scratch5) (fun _ => bodyPost m ρ c)
  rw [body_eq]
  exact body_wp m ρ c

/-! ## The launch's side conditions -/

theorem ownSemFacts : Pipeline.OwnSemFacts cfg0.spec osem := by decide

theorem share_eq (c : Dev nD) (w : Fin cfg0.W) : (dats m ρ 0 c).share w = fullShare := by unfold Pipeline.Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ given (opP m ρ) (opG m ρ) c)
      ⊢ |={Set.univ}=> iprop(start m ρ c ∗ emp) := by
  rw [Pipeline.unscopedRestP_none, unscopedRest0_eq]
  unfold given start
  iintro ⟨Hr, Hlev, Hcr, -, HI, Hh⟩
  ihave Hrd := (ready_intro (F := F) c) $$ [Hh Hcr]
  · isplitl [Hh] <;> iassumption
  imodintro
  isplitl
  · isplitl [HI]; · iexact HI
    isplitl [Hrd]; · iexact Hrd
    isplitl [Hlev]; · iexact Hlev
    iexists _; iexact Hr
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop((result m ρ c ∗ unscopedSems0 c) ∗ own0 (F := F) c ∗ Pipeline.scopedRest cfg0.spec c) := by
  rw [show (dats m ρ 0 c).Φ (Fin.last cfg0.N) = Φ₁ m ρ c from rfl, scopedRest0_eq, unscopedSems0_eq]
  unfold Φ₁ scratch
  iintro ⟨Hs, Hr, Hb⟩
  ihave Hb := (sems_back c) $$ Hb
  icases Hb with ⟨HB, HO⟩
  isplitl [Hr HB]
  · isplitl [Hr] <;> iassumption
  isplitl [HO]; · iexact HO
  iexact Hs

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- A device's result and its barrier's counter, read off the final state. -/
def QY (c : Dev nD) (s : MemSt nD τ sig (Elt F)) : Prop :=
  s.mem (rLoc c) = outV (opP m ρ) (opG m ρ) c ∧ ∀ sm : SemLoc sig, sm.isScoped .tc = false → s.sem ((c.tc : Thread nD τ), sm) = 0

theorem read_end (c : Dev nD) (s' : Phys nD τ sig (Elt F)) :
    iprop((result m ρ c ∗ unscopedSems0 c) ∗ emp ∗ SI s') ⊢ (|={Set.univ}=> iprop(⌜QY m ρ c s'.mem⌝ ∗ SI s') : sProp 𝕄) := by
  unfold result
  iintro ⟨⟨Hr, Hu⟩, -, HSI⟩
  icombine HSI Hr gives %h
  imod (Pipeline.unscopedSems0_read (X := unscopedSems0 c) (c := c) fupd_intro s') $$ [Hu HSI] with ⟨%h', HSI⟩
  · isplitl [Hu] <;> iassumption
  imodintro
  isplitr
  · ipureintro
    exact ⟨funext fun i => h i (Finset.mem_univ _), h'⟩
  iexact HSI

/-! ## The run -/

/-- The final memory: each operand as it was, the result computed. -/
def Done (r : PUnit × MemSt nD τ sig (Elt F)) : Prop :=
  (∀ c : Dev nD, r.2.mem ((c : Thread nD τ).loc main_arg0) = m ((c : Thread nD τ).loc main_arg0)
    ∧ r.2.mem ((c : Thread nD τ).loc main_arg1) = m ((c : Thread nD τ).loc main_arg1)
    ∧ r.2.mem (rLoc c) = outV (opP m ρ) (opG m ρ) c) ∧ r.2.sem = fun _ => 0

theorem done_intro (s : MemSt nD τ sig (Elt F))
    (h : ∀ c : Dev nD, (∀ w : Fin cfg0.W, s.mem ((cfg0.win w).arr.view.loc (c : Thread nD τ)) = (dats m ρ 0 c).arrAt w cfg0.N) ∧ QY m ρ c s)
    (hs : ∀ g : GSem nD τ sig, (g.1.2 ≠ .tc ∨ g.2.isScoped .tc = true) → s.sem g = 0) : Done m ρ (⟨⟩, s) :=
  ⟨fun c => ⟨((h c).1 (0 : Fin 2)).trans ((dats (F := F) m ρ 0 c).arrAt_in (0 : Fin 2) rfl _),
    ((h c).1 (1 : Fin 2)).trans ((dats (F := F) m ρ 0 c).arrAt_in (1 : Fin 2) rfl _), (h c).2.1⟩,
   sem_eq_zero hs fun c => (h c).2.2⟩

set_option maxRecDepth 65536 in
theorem run_main : θ_run defs (onTc (τ := τ) (main (F := F))) (s₀ m ρ) (Done m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := dealt (opP m ρ) (opG m ρ)) (G' := given (opP m ρ) (opG m ρ)) (u₀ := u₀)
    (hu₀ := by
      unfold u₀
      iintro Hu
      ihave H := (ownU_pair _ _) $$ Hu
      icases H with ⟨HP, HX⟩
      imod (fund_cells (opP m ρ) (opG m ρ)) $$ HX with HG
      imodintro
      isplitl [HP] <;> iassumption)
    (hglob := glob (opP m ρ) (opG m ρ))
    (hA := fun _ _ => rfl) (hpf := fun _ k => k.elim0)
    (X := start m ρ) (Y := fun c => iprop(result m ρ c ∗ unscopedSems0 c)) (Z := fun _ => iprop(emp))
    (hX := start_intro m ρ) (hin := phi0_intro m ρ) (hout := phi1_exit m ρ)
    (QY := QY m ρ) (hY := read_end m ρ)
    (hQ := fun s h hs => done_intro m ρ s (fun c => ⟨(h c).1, (h c).2.2⟩) hs)

end Cert.KP

end
-- ==== Proof.Exact.lean ====
/-
# What a device's result holds, on the extended reals

Reads the rows a device computes at an index, where every operation is exact: the sum of the two devices' rows, times
the reciprocal root of its mean square plus a constant, times the weight. Multiplying by the reciprocal root is the same
as dividing by the root, for the mean plus the constant is positive, infinite rows included.
-/
module

public import proofs.«01_k».proof.Proof.Launch
public import Idealize.ShloMosaic.Lib.Pointwise

@[expose] public section

noncomputable section

namespace Cert.KP

open Cert.KernelIdeal Cert.KernelIdeal.Gen
open Idealize.ShloMosaic Idealize.ShloMosaic.TcCoe Idealize.SL.Sem

/-! ## The scalar identity -/

/-- The mean square of a row, plus the constant that keeps it off zero. -/
def den (y : Fin 1024 → EReal) : EReal :=
  Ideal.div (∑ l, y l * y l) (Ideal.ofBits .f32 0x44800000#32) + Ideal.ofBits .f32 0x358637BD#32

theorem count_eq : Ideal.ofBits .f32 0x44800000#32 = ((1024 : ℝ) : EReal) := by
  simp [Ideal.ofBits, Ideal.ieee]
  rw [← EReal.coe_mul]; norm_num
theorem eps_pos : 0 < Ideal.ofBits .f32 0x358637BD#32 := by
  simp [Ideal.ofBits, Ideal.ieee]
  rw [← EReal.coe_mul]; exact EReal.coe_pos.mpr (by positivity)

theorem sq_nonneg' (x : EReal) : 0 ≤ x * x := by
  induction x with
  | bot => simp
  | top => simp
  | coe r => exact_mod_cast mul_self_nonneg r

theorem den_pos (y : Fin 1024 → EReal) : 0 < den y := by
  unfold den
  rw [count_eq, Ideal.div_coe (by norm_num)]
  refine lt_of_lt_of_le eps_pos (le_add_of_nonneg_left (mul_nonneg (Finset.sum_nonneg fun l _ => sq_nonneg' _) ?_))
  exact_mod_cast (by norm_num : (0 : ℝ) ≤ 1 / 1024)

theorem mul_rsqrt (x v : EReal) (hv : 0 < v) : x * Ideal.rsqrt v = Ideal.div x (Ideal.sqrt v) := by
  induction v with
  | bot => simp at hv
  | top => simp [Ideal.div]
  | coe v =>
    have hv' : 0 < v := by exact_mod_cast hv
    rw [Ideal.rsqrt_coe, Ideal.sqrt_coe, if_neg hv'.not_gt, if_neg hv'.ne', if_neg hv'.not_gt,
      Ideal.div_coe (Real.sqrt_pos.mpr hv').ne', one_div]

/-! ## The rows of one slot -/

theorem col_at {n : ℕ} (v : FVec Ideal ⟨1, ![n]⟩ .f32) (k : (Sn n).Idx) :
    shapeCast (⟨2, ![n, 1]⟩ : Shape) v (casts1 n) (ix2 (k 0) 0) = v (ix1 (k 0)) := by
  refine shapeCast_apply _ _ _ _ ?_
  rw [Shape.rowMajor_val_two, Shape.rowMajor_val_one]
  simp

theorem spread_at {n : ℕ} (v : FVec Ideal ⟨2, ![n, 1]⟩ .f32) (k : (Sn n).Idx) :
    broadcastTo (Sn n) v (bcast n) k = v (ix2 (k 0) 0) := by
  refine broadcastTo_apply _ _ _ _ fun a => ?_
  match a with
  | 0 =>
    show (k 0).val = if n = 1 then 0 else (k 0).val
    have : (k 0).val < n := (k 0).isLt
    split <;> omega
  | 1 => rfl

theorem ySum_at {n : ℕ} (m : Vec Ideal (Sn n) .bf16) (p : Vec Ideal (S1n n) .f32) (k : (Sn n).Idx) :
    ySum n m p k = m k + p (ix3 0 (k 0) (k 1)) := by
  refine congrArg (m k + ·) (shapeCast_apply _ _ _ _ ?_)
  rw [Shape.rowMajor_val_two, Shape.rowMajor_val_three]
  simp

theorem yNorm_at {n : ℕ} (y : FVec Ideal (Sn n) .f32) (k : (Sn n).Idx) :
    yNorm n y k = y k * Ideal.rsqrt (den fun l => y (ix2 (k 0) l)) := by
  rw [yNorm, mulf_apply, spread_at, rsqrt_apply, addf_apply, divf_apply, col_at]
  pointwise
  rfl

theorem rowPay_at {n : ℕ} (m : Vec Ideal (Sn n) .bf16) (p : Vec Ideal (S1n n) .f32) (g : Vec Ideal S1024 .f32) (k : (Sn n).Idx) :
    rowPay n m p g k
      = Ideal.div (ySum n m p k) (Ideal.sqrt (den fun l => ySum n m p (ix2 (k 0) l))) * g (ix1 (k 1)) := by
  rw [rowPay, shapeCast_self, mulf_apply, yNorm_at, mul_rsqrt _ _ (den_pos _)]
  pointwise

/-! ## The result -/

/-- Row `r` of a device's half of the sum of the two summands it sees there. -/
def sumRow (P : Dev nD → Vec Ideal S1x2048x1024 .f32) (c : Dev nD) (r l : Fin 1024) : EReal :=
  P (org c r.val) (pIdx c r l) + P c (pIdx c r l)

theorem ySum_row (P : Dev nD → Vec Ideal S1x2048x1024 .f32) (c : Dev nD) (s : Fin 27) (k : (Sn (dLen s)).Idx) :
    ySum (dLen s) (mCh P c s) (pCh P c s) k
      = sumRow P c (rowIx (dRow c s) (dRow_le c s) k 0) (rowIx (dRow c s) (dRow_le c s) k 1) :=
  ySum_at _ _ _

theorem outV_at (P : Dev nD → Vec Ideal S1x2048x1024 .f32) (G : Dev nD → Vec Ideal S1024 .f32) (c : Dev nD) (i : S1024x1024.Idx) :
    outV P G c i = Ideal.div (sumRow P c (i 0) (i 1)) (Ideal.sqrt (den (sumRow P c (i 0)))) * G c (ix1 (i 1)) := by
  obtain ⟨s, -, hs⟩ := Finset.mem_biUnion.mp ((slots_cover c).symm ▸ Finset.mem_univ i : i ∈ _)
  obtain ⟨k, rfl⟩ := rws_ex (dRow_le c s) hs
  rw [outV_row, rowPay_at, ySum_row, show (fun l => ySum (dLen s) (mCh P c s) (pCh P c s) (ix2 (k 0) l))
    = sumRow P c (rowIx (dRow c s) (dRow_le c s) k 0) from funext fun l => ySum_row P c s (ix2 (k 0) l)]
  rfl

/-! ## The operands -/

section Operands
variable {F : FTy → Type} [FloatOps F] (m : (ℓ : Loc nD τ sig) → Buf (Elt F) ℓ) (ρ : Dev nD → PrngReg)

theorem opP_eq (c : Dev nD) : opP m ρ c = m ((c : Thread nD τ).loc main_arg0) := by
  funext i
  refine congrArg (m ((c : Thread nD τ).loc main_arg0)) (funext fun a => Fin.ext ?_)
  match a with
  | 0 => show 0 + 1 * (i 0).val = _; omega
  | 1 => show 0 + 1 * (i 1).val = _; omega
  | 2 => show 0 + 1 * (i 2).val = _; omega
theorem opG_eq (c : Dev nD) : opG m ρ c = m ((c : Thread nD τ).loc main_arg1) := by
  funext i
  refine congrArg (m ((c : Thread nD τ).loc main_arg1)) (funext fun a => Fin.ext ?_)
  match a with
  | 0 => show 0 + 1 * (i 0).val = _; omega

end Operands

end Cert.KP

end
-- ==== Proof.Reference.lean ====
/-
# What the reference computes, on the extended reals

The reference's last array at an index: the sum of the two summands' rows, divided by the root of its mean square plus a
constant, times the weight.
-/
module

public import proofs.«01_k».proof.Proof.Exact
public import proofs.«01_k».proof.Proof.Gen.ReferenceIdeal.Run

@[expose] public section

noncomputable section

namespace Cert.KP

open Cert.ReferenceIdeal Cert.ReferenceIdeal.Gen
open Idealize.ShloMosaic Idealize.ShloMosaic.TcCoe Idealize.SL.Sem

/-- The sum of the two summands. -/
abbrev refSum (A : FVec Ideal S2x2048x1024 .f32) : FVec Ideal S2048x1024 .f32 :=
  Host.reduceAdd A (constant S_ .f32 0x00000000#32) reducesTo_S2x2048x1024_S2048x1024_d0 h_S_

/-- The reference's result, as it computes it. -/
abbrev refOut (A : FVec Ideal S2x2048x1024 .f32) (g : FVec Ideal S1024 .f32) : FVec Ideal S2048x1024 .f32 :=
  mulf (Host.divf (refSum A) (broadcastInDim S2048x1024 ![0, 1] bcast_S2048x1_S2048x1024_0_1
    (Host.sqrt (addf (Host.divf
        (broadcastInDim S2048x1 ![0] bcast_S2048_S2048x1_0
          (Host.reduceAdd (mulf (refSum A) (refSum A)) (constant S_ .f32 0x00000000#32) reducesTo_S2048x1024_S2048_d1 h_S_))
        (broadcastInDim S2048x1 ![] bcast_S_S2048x1 (constant S_ .f32 0x44800000#32)))
      (broadcastInDim S2048x1 ![] bcast_S_S2048x1 (constant S_ .f32 0x358637BD#32))))))
    (broadcastInDim S2048x1024 ![0, 1] bcast_S1x1024_S2048x1024_0_1 (broadcastInDim S1x1024 ![1] bcast_S1024_S1x1024_1 g))

theorem refOut_at (A : FVec Ideal S2x2048x1024 .f32) (g : FVec Ideal S1024 .f32) (i : S2048x1024.Idx) :
    refOut A g i = Ideal.div (∑ x, A (ix3 x (i 0) (i 1))) (Ideal.sqrt (den fun l => ∑ x, A (ix3 x (i 0) l))) * g (ix1 (i 1)) := by
  unfold refOut refSum
  pointwise
  rfl

/-- The reference runs, its arguments end unchanged and every semaphore counter is zero. -/
theorem run_ref (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ c : Dev nD, r.2.mem ((c.tc : Thread nD τ).loc main_v13)
            = refOut (m ((c.tc : Thread nD τ).loc main_arg0)) (m ((c.tc : Thread nD τ).loc main_arg1))
          ∧ r.2.mem ((c.tc : Thread nD τ).loc main_arg0) = m ((c.tc : Thread nD τ).loc main_arg0)
          ∧ r.2.mem ((c.tc : Thread nD τ).loc main_arg1) = m ((c.tc : Thread nD τ).loc main_arg1))
      ∧ r.2.sem = fun _ => 0 :=
  (θ_run defs _ _).mono (fun r h => ⟨h, sem_eq_zero_of_no_sems (by decide) _⟩) (Value.run (F := Ideal) m ρ)

end Cert.KP

end
-- ==== Proof.Agree.lean ====
/-
# The kernel's result against the reference's

Device `c` of the mesh has block `c / 4` of the summands and of the result, the weights whole. The rows a device receives
were the other block's, whichever device they came through, so that its sum is the reference's with the two terms
in one order or the other.
-/
module

public import proofs.«01_k».proof.Proof.Reference
public import proofs.«01_k».proof.Defs

@[expose] public section

noncomputable section

namespace Cert.KP

open Cert.KernelIdeal Cert.KernelIdeal.Gen
open Idealize.ShloMosaic Idealize.ShloMosaic.TcCoe Idealize.SL.Sem

/-- The device's coordinate along `x` is the block it has. -/
theorem mesh_x : ∀ c : Dev nD, Layout.meshLin [2, 2, 2] c.val [0] = cx c := by decide +kernel

/-- What a device holds of the summands. -/
abbrev part (c : Dev nD) (A : Vec Ideal ⟨3, ![2, 2048, 1024]⟩ .f32) : Vec Ideal S1x2048x1024 .f32 :=
  Layout.blockN ⟨3, ![1, 2048, 1024]⟩ ⟨3, ![2, 2048, 1024]⟩ (Layout.meshBlock [2, 2, 2] ![[0], [], []] c) A

/-- The row of the whole result that row `r` of device `c`'s is. -/
def wholeRow (c : Dev nD) (r : Fin 1024) : Fin 2048 := ⟨1024 * cx c + r.val, by have := cx_le c; omega⟩

theorem part_at (A : Vec Ideal ⟨3, ![2, 2048, 1024]⟩ .f32) (d c : Dev nD) (r l : Fin 1024) :
    part d A (pIdx c r l) = A (ix3 ⟨cx d, by have := cx_le d; omega⟩ (wholeRow c r) l) := by
  refine congrArg A (funext fun a => Fin.ext ?_)
  rw [Layout.TilesN.idx_val]
  match a with
  | 0 => show Layout.meshLin [2, 2, 2] d.val [0] * 1 + 0 = cx d; rw [mesh_x]; omega
  | 1 => show 0 * 2048 + (1024 * cx c + r.val) = 1024 * cx c + r.val; omega
  | 2 => show 0 * 1024 + l.val = l.val; omega

theorem out_at (v : Vec Ideal ⟨2, ![2048, 1024]⟩ .f32) (c : Dev nD) (i : S1024x1024.Idx) :
    Layout.blockN ⟨2, ![1024, 1024]⟩ ⟨2, ![2048, 1024]⟩ (Layout.meshBlock [2, 2, 2] ![[0], []] c) v (by decide) i
      = v (ix2 (wholeRow c (i 0)) (i 1)) := by
  refine congrArg v (funext fun a => Fin.ext ?_)
  rw [Layout.TilesN.idx_val]
  match a with
  | 0 => show Layout.meshLin [2, 2, 2] c.val [0] * 1024 + (i 0).val = 1024 * cx c + (i 0).val; rw [mesh_x]; omega
  | 1 => show 0 * 1024 + (i 1).val = (i 1).val; omega

theorem cx_px : ∀ c : Dev nD, cx (px c) = 1 - cx c := by decide +kernel

/-- The rows a device receives are the other block's. -/
theorem cx_org (c : Dev nD) (r : ℕ) : cx (org c r) = 1 - cx c := by
  unfold org
  split
  · exact cx_px c
  · show (4 * (1 - cx c) + 2 * (r / 256 % 2) + r / 512 % 2) / 4 = _; omega

/-- The sum a device computes is the whole sum's row. -/
theorem sumRow_eq (A : Vec Ideal ⟨3, ![2, 2048, 1024]⟩ .f32) (c : Dev nD) (r l : Fin 1024) :
    sumRow (fun d => part d A) c r l = ∑ x, A (ix3 x (wholeRow c r) l) := by
  rw [sumRow, part_at, part_at, Fin.sum_univ_two]
  have ho := cx_org c r.val
  rcases (show cx c = 0 ∨ cx c = 1 by have := cx_le c; omega) with h | h
  · rw [show (⟨cx (org c r.val), _⟩ : Fin 2) = 1 from Fin.ext (ho.trans (by rw [h]; rfl)), show (⟨cx c, _⟩ : Fin 2) = 0 from Fin.ext h]
    exact add_comm _ _
  · rw [show (⟨cx (org c r.val), _⟩ : Fin 2) = 0 from Fin.ext (ho.trans (by rw [h]; rfl)), show (⟨cx c, _⟩ : Fin 2) = 1 from Fin.ext h]

/-- Device `c`'s result is its block of the reference's. -/
theorem outV_eq (A : Vec Ideal ⟨3, ![2, 2048, 1024]⟩ .f32) (g : Vec Ideal S1024 .f32) (c : Dev nD) :
    outV (fun d => part d A) (fun _ => g) c
      = Layout.blockN ⟨2, ![1024, 1024]⟩ ⟨2, ![2048, 1024]⟩ (Layout.meshBlock [2, 2, 2] ![[0], []] c) (refOut A g) := by
  funext i
  have row : sumRow (fun d => part d A) c (i 0) = fun l => ∑ x, A (ix3 x (wholeRow c (i 0)) l) :=
    funext fun l => sumRow_eq A c (i 0) l
  rw [outV_at, out_at, refOut_at]
  exact congrArg (fun y : Fin 1024 → EReal => Ideal.div (y (i 1)) (Ideal.sqrt (den y)) * g (ix1 (i 1))) row

theorem algebraic : Cert.algebraic_KernelIdeal_ReferenceIdeal (hKernelIdeal := Cert.KernelIdeal.Gen.facts)
    (hReferenceIdeal := Cert.ReferenceIdeal.Gen.facts) := by
  intro m g m' g' _ hm
  refine ⟨_, (θ_run defs _ _).mono (fun r h c => ?_) (run_main (F := Ideal) m g),
    (θ_run Cert.ReferenceIdeal.defs _ _).mono (fun r h => h.1 0) (run_ref m' g')⟩
  obtain ⟨h0, h1, h2⟩ := h.1 c
  refine ⟨?_, h0, h1⟩
  rw [← outV_eq]
  refine h2.trans (congrArg₂ (fun P G => outV P G c) (funext fun d => ?_) (funext fun d => ?_))
  · exact (opP_eq m g d).trans (hm d).1
  · exact (opG_eq m g d).trans (hm d).2

end Cert.KP

end
-- ==== Proof.lean ====
/-
# The proof of the claim

Assembles the run of the kernel on the mesh (Proof/Launch.lean, for any float values) and the agreement of its result
with the reference's on the extended reals (Proof/Agree.lean) into the certificate's five claims.
-/
module

public import proofs.«01_k».proof.Proof.Gen.ReferenceIdeal.Run
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Agree

@[expose] public section

noncomputable section

namespace Cert.Proof

open Idealize.ShloMosaic Idealize.SL.Sem Cert.Kernel

/-- The kernel's run at any float values, with what it leaves alone. -/
theorem frame_any {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
          = m ((c.tc : Thread Cert.KernelIdeal.nD Cert.KernelIdeal.τ).loc Cert.KernelIdeal.main_arg1))
        ∧ r.2.sem = fun _ => 0) :=
  (θ_run Cert.KernelIdeal.defs _ _).mono (fun _ h => ⟨fun c => ⟨(h.1 c).1, (h.1 c).2.1⟩, h.2⟩) (Cert.KP.run_main m ρ)

/-- The two printed programs run the same bodies. -/
theorem bodies_eq {F : FTy → Type} [FloatOps F] :
    @Cert.Kernel.defs₀ F _ Cert.Kernel.Gen.facts = @Cert.KernelIdeal.defs₀ F _ Cert.KernelIdeal.Gen.facts := by
  refine congrArg Defs.onTc (funext fun l => funext fun a => ?_)
  match l, a with
  | 0, (_, _) => rfl
theorem defs_eq {F : FTy → Type} [FloatOps F] :
    @Cert.Kernel.defs F _ Cert.Kernel.Gen.facts = @Cert.KernelIdeal.defs F _ Cert.KernelIdeal.Gen.facts :=
  congrArg (Pipeline.defs _) bodies_eq

/-- The kernel's frame at its own float values. -/
theorem frame_kernel : Cert.quiescent_Kernel (hKernel := Cert.Kernel.Gen.facts) := by
  intro m ρ _
  rw [defs_eq]
  exact frame_any (F := Bits) m ρ

theorem frame_kernelIdeal : Cert.quiescent_KernelIdeal (hKernelIdeal := Cert.KernelIdeal.Gen.facts) := fun m ρ _ =>
  frame_any (F := Ideal) m ρ

theorem frame_reference : Cert.quiescent_ReferenceIdeal (hReferenceIdeal := Cert.ReferenceIdeal.Gen.facts) := fun m ρ _ =>
  (θ_run Cert.ReferenceIdeal.defs _ _).mono (fun _ h => ⟨fun c => (h.1 c).2, h.2⟩) (Cert.KP.run_ref m ρ)

theorem claim : Cert.Claim :=
  ⟨Cert.Kernel.Gen.facts, Cert.KernelIdeal.Gen.facts, Cert.ReferenceIdeal.Gen.facts,
    frame_kernel, frame_kernelIdeal, frame_reference, trivial, Cert.KP.algebraic⟩

end Cert.Proof

end
